-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1024x2176 : Shape := ⟨3, ![6, 1024, 2176]⟩
abbrev S6x1024x1 : Shape := ⟨3, ![6, 1024, 1]⟩
abbrev S2176x7168 : Shape := ⟨2, ![2176, 7168]⟩
abbrev S7168 : Shape := ⟨1, ![7168]⟩
abbrev S6144x2176 : Shape := ⟨2, ![6144, 2176]⟩
abbrev S6144x1 : Shape := ⟨2, ![6144, 1]⟩
abbrev S1x7168 : Shape := ⟨2, ![1, 7168]⟩
abbrev S6144x7168 : Shape := ⟨2, ![6144, 7168]⟩
abbrev S7x6144x8 : Shape := ⟨3, ![7, 6144, 8]⟩
abbrev S512x2176 : Shape := ⟨2, ![512, 2176]⟩
abbrev S512x1 : Shape := ⟨2, ![512, 1]⟩
abbrev S2176x1024 : Shape := ⟨2, ![2176, 1024]⟩
abbrev S1x1024 : Shape := ⟨2, ![1, 1024]⟩
abbrev S512x1024 : Shape := ⟨2, ![512, 1024]⟩
abbrev S1x512x8 : Shape := ⟨3, ![1, 512, 8]⟩
abbrev S512x8 : Shape := ⟨2, ![512, 8]⟩
abbrev S512x128 : Shape := ⟨2, ![512, 128]⟩
abbrev S512 : Shape := ⟨1, ![512]⟩
abbrev S6144x7x8 : Shape := ⟨3, ![6144, 7, 8]⟩
abbrev S6x1024x56 : Shape := ⟨3, ![6, 1024, 56]⟩
abbrev S6x1024x7168 : Shape := ⟨3, ![6, 1024, 7168]⟩

abbrev nBuf : Space → Nat
  | .hbm => 14
  | .vmem => 14
  | .smem => 0
  | _ => 0

abbrev bufTy : (tb : Table) → Fin (tcTables nBuf tb) → BufTy
  | .hbm, ⟨0, _⟩ => ⟨S6x1024x2176, .fp8e4m3⟩
  | .hbm, ⟨1, _⟩ => ⟨S6x1024x1, .f32⟩
  | .hbm, ⟨2, _⟩ => ⟨S2176x7168, .fp8e4m3⟩
  | .hbm, ⟨3, _⟩ => ⟨S7168, .f32⟩
  | .hbm, ⟨4, _⟩ => ⟨S7168, .bf16⟩
  | .hbm, ⟨5, _⟩ => ⟨S6144x2176, .fp8e4m3⟩
  | .hbm, ⟨6, _⟩ => ⟨S6144x1, .f32⟩
  | .hbm, ⟨7, _⟩ => ⟨S1x7168, .f32⟩
  | .hbm, ⟨8, _⟩ => ⟨S1x7168, .bf16⟩
  | .hbm, ⟨9, _⟩ => ⟨S6144x7168, .fp8e4m3⟩
  | .hbm, ⟨10, _⟩ => ⟨S7x6144x8, .f32⟩
  | .hbm, ⟨11, _⟩ => ⟨S6144x7x8, .f32⟩
  | .hbm, ⟨12, _⟩ => ⟨S6x1024x56, .f32⟩
  | .hbm, ⟨13, _⟩ => ⟨S6x1024x7168, .fp8e4m3⟩
  | .local _ .vmem, ⟨0, _⟩ => ⟨S512x2176, .fp8e4m3⟩
  | .local _ .vmem, ⟨1, _⟩ => ⟨S512x2176, .fp8e4m3⟩
  | .local _ .vmem, ⟨2, _⟩ => ⟨S512x1, .f32⟩
  | .local _ .vmem, ⟨3, _⟩ => ⟨S512x1, .f32⟩
  | .local _ .vmem, ⟨4, _⟩ => ⟨S2176x1024, .fp8e4m3⟩
  | .local _ .vmem, ⟨5, _⟩ => ⟨S2176x1024, .fp8e4m3⟩
  | .local _ .vmem, ⟨6, _⟩ => ⟨S1x1024, .f32⟩
  | .local _ .vmem, ⟨7, _⟩ => ⟨S1x1024, .f32⟩
  | .local _ .vmem, ⟨8, _⟩ => ⟨S1x1024, .bf16⟩
  | .local _ .vmem, ⟨9, _⟩ => ⟨S1x1024, .bf16⟩
  | .local _ .vmem, ⟨10, _⟩ => ⟨S512x1024, .fp8e4m3⟩
  | .local _ .vmem, ⟨11, _⟩ => ⟨S512x1024, .fp8e4m3⟩
  | .local _ .vmem, ⟨12, _⟩ => ⟨S1x512x8, .f32⟩
  | .local _ .vmem, ⟨13, _⟩ => ⟨S1x512x8, .f32⟩
  | _, _ => ⟨S6x1024x2176, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![7, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2176 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2176x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S6x1024x2176 : Shape := ⟨3, ![6, 1024, 2176]⟩
abbrev S6x1024x1 : Shape := ⟨3, ![6, 1024, 1]⟩
abbrev S2176x7168 : Shape := ⟨2, ![2176, 7168]⟩
abbrev S7168 : Shape := ⟨1, ![7168]⟩
abbrev S6x1024x7168 : Shape := ⟨3, ![6, 1024, 7168]⟩
abbrev S6x1024x56 : Shape := ⟨3, ![6, 1024, 56]⟩
abbrev S6144x2176 : Shape := ⟨2, ![6144, 2176]⟩
abbrev S6144x7168 : Shape := ⟨2, ![6144, 7168]⟩
abbrev S6144x1 : Shape := ⟨2, ![6144, 1]⟩
abbrev S1x7168 : Shape := ⟨2, ![1, 7168]⟩
abbrev S6144x56x128 : Shape := ⟨3, ![6144, 56, 128]⟩
abbrev S6144x56 : Shape := ⟨2, ![6144, 56]⟩
abbrev S6144x56x1 : Shape := ⟨3, ![6144, 56, 1]⟩

abbrev nBuf : Space → Nat
  | .hbm => 7
  | .vmem => 7
  | .smem => 0
  | _ => 0

abbrev bufTy : (tb : Table) → Fin (tcTables nBuf tb) → BufTy
  | .hbm, ⟨0, _⟩ => ⟨S6x1024x2176, .fp8e4m3⟩
  | .hbm, ⟨1, _⟩ => ⟨S6x1024x1, .f32⟩
  | .hbm, ⟨2, _⟩ => ⟨S2176x7168, .fp8e4m3⟩
  | .hbm, ⟨3, _⟩ => ⟨S7168, .f32⟩
  | .hbm, ⟨4, _⟩ => ⟨S7168, .bf16⟩
  | .hbm, ⟨5, _⟩ => ⟨S6x1024x7168, .fp8e4m3⟩
  | .hbm, ⟨6, _⟩ => ⟨S6x1024x56, .f32⟩
  | .local _ .vmem, ⟨0, _⟩ => ⟨S6x1024x2176, .fp8e4m3⟩
  | .local _ .vmem, ⟨1, _⟩ => ⟨S6x1024x1, .f32⟩
  | .local _ .vmem, ⟨2, _⟩ => ⟨S2176x7168, .fp8e4m3⟩
  | .local _ .vmem, ⟨3, _⟩ => ⟨S7168, .f32⟩
  | .local _ .vmem, ⟨4, _⟩ => ⟨S7168, .bf16⟩
  | .local _ .vmem, ⟨5, _⟩ => ⟨S6x1024x7168, .fp8e4m3⟩
  | .local _ .vmem, ⟨6, _⟩ => ⟨S6x1024x56, .f32⟩
  | _, _ => ⟨S6x1024x2176, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x1024x2176 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2176x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x1024x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x1024x56 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Layout.lean ====
/- Layout operations read at an index given by its coordinates, for the shapes of this problem: a column broadcast over
   many columns, and arrays cut into groups along their last axis. Extents stay variables. -/
module

public import Idealize.ShloMosaic.Lib.ValueLayoutCasts
public import Idealize.ShloMosaic.Lib.ValueIdx
public import Idealize.ShloMosaic.Lib.MatmulPlain

@[expose] public section

namespace GeluQuant

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array broadcast to `[a, b, d]` reads, at `(p, q, c)`, the operand at `(p, q, 0)`. -/
theorem broadcastTo_ab1_abd_apply {a b d : ℕ} (v : (⟨3, ![a, b, 1]⟩ : Shape).Idx → α)
    (h : (⟨3, ![a, b, 1]⟩ : Shape).Broadcasts ⟨3, ![a, b, d]⟩) (p : Fin a) (q : Fin b) (c : Fin d) :
    broadcastTo ⟨3, ![a, b, d]⟩ v h (ix3 p q c) = v (ix3 p q (0 : Fin 1)) := by
  refine broadcastTo_apply v h (ix3 p q c) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, b]` array cast to `[a, b, 1]` reads, at `(p, q, 0)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    omega)

/-- An `[a, b, d]` array cast to `[a, n]` with `n = b d` reads, at `(p, q d + l)`, the operand at `(p, q, l)`. -/
theorem shapeCast_abd_an_apply {a b d n : ℕ} (hn : n = b * d) (x : (⟨3, ![a, b, d]⟩ : Shape).Idx → α)
    (h : (⟨3, ![a, b, d]⟩ : Shape).ShapeCasts ⟨2, ![a, n]⟩) (p : Fin a) (q : Fin b) (l : Fin d) (c : Fin n)
    (hc : c.val = q.val * d + l.val) : shapeCast ⟨2, ![a, n]⟩ x h (ix2 p c) = x (ix3 p q l) :=
  shapeCast_apply x h _ _ (by
    rw [Shape.rowMajor_val_three, Shape.rowMajor_val_two]
    show (p.val * b + q.val) * d + l.val = p.val * n + c.val
    rw [hc, hn, Nat.add_mul, Nat.mul_assoc, Nat.add_assoc])

/-- An `[a, n]` array cast to `[a, b, d]` with `n = b d` reads, at `(p, q, l)`, the operand at `(p, q d + l)`. -/
theorem shapeCast_an_abd_apply {a b d n : ℕ} (hn : n = b * d) (x : (⟨2, ![a, n]⟩ : Shape).Idx → α)
    (h : (⟨2, ![a, n]⟩ : Shape).ShapeCasts ⟨3, ![a, b, d]⟩) (p : Fin a) (q : Fin b) (l : Fin d) (c : Fin n)
    (hc : c.val = q.val * d + l.val) : shapeCast ⟨3, ![a, b, d]⟩ x h (ix3 p q l) = x (ix2 p c) :=
  shapeCast_apply x h _ _ (by
    rw [Shape.rowMajor_val_three, Shape.rowMajor_val_two]
    show p.val * n + c.val = (p.val * b + q.val) * d + l.val
    rw [hc, hn, Nat.add_mul, Nat.mul_assoc, Nat.add_assoc])

/-- An `[a, b, d]` array cast to `[n, d]` with `n = a b` reads, at `(p b + s, k)`, the operand at `(p, s, k)`. -/
theorem shapeCast_abd_nd_apply {a b d n : ℕ} (x : (⟨3, ![a, b, d]⟩ : Shape).Idx → α)
    (h : (⟨3, ![a, b, d]⟩ : Shape).ShapeCasts ⟨2, ![n, d]⟩) (p : Fin a) (s : Fin b) (k : Fin d) (r : Fin n)
    (hr : r.val = p.val * b + s.val) : shapeCast ⟨2, ![n, d]⟩ x h (ix2 r k) = x (ix3 p s k) :=
  shapeCast_apply x h _ _ (by
    rw [Shape.rowMajor_val_three, Shape.rowMajor_val_two]
    show (p.val * b + s.val) * d + k.val = r.val * d + k.val
    rw [hr])

/-- An `[n, d]` array cast to `[a, b, d]` with `n = a b` reads, at `(p, s, k)`, the operand at `(p b + s, k)`. -/
theorem shapeCast_nd_abd_apply {a b d n : ℕ} (x : (⟨2, ![n, d]⟩ : Shape).Idx → α)
    (h : (⟨2, ![n, d]⟩ : Shape).ShapeCasts ⟨3, ![a, b, d]⟩) (p : Fin a) (s : Fin b) (k : Fin d) (r : Fin n)
    (hr : r.val = p.val * b + s.val) : shapeCast ⟨3, ![a, b, d]⟩ x h (ix3 p s k) = x (ix2 r k) :=
  shapeCast_apply x h _ _ (by
    rw [Shape.rowMajor_val_three, Shape.rowMajor_val_two]
    show r.val * d + k.val = (p.val * b + s.val) * d + k.val
    rw [hr])

/-- An `[n, e, f]` array cast to `[a, b, d]` with `n = a b` and `d = e f` reads, at `(p, s, j f + k)`, the operand at
    `(p b + s, j, k)`. -/
theorem shapeCast_nef_abd_apply {a b d n e f : ℕ} (hd : d = e * f) (x : (⟨3, ![n, e, f]⟩ : Shape).Idx → α)
    (h : (⟨3, ![n, e, f]⟩ : Shape).ShapeCasts ⟨3, ![a, b, d]⟩) (p : Fin a) (s : Fin b) (q : Fin d) (r : Fin n) (j : Fin e) (k : Fin f)
    (hr : r.val = p.val * b + s.val) (hq : q.val = j.val * f + k.val) :
    shapeCast ⟨3, ![a, b, d]⟩ x h (ix3 p s q) = x (ix3 r j k) :=
  shapeCast_apply x h _ _ (by
    rw [Shape.rowMajor_val_three, Shape.rowMajor_val_three]
    show (r.val * e + j.val) * f + k.val = (p.val * b + s.val) * d + q.val
    rw [hr, hq, hd, Nat.add_mul, Nat.mul_assoc, Nat.add_assoc])

end GeluQuant
-- ==== Proof.Exponent.lean ====
/- The exponent field of a group's step, at the ideal values. The kernel finds the field bit by bit, comparing with the
   powers of two (`field`); the reference writes the exponent as a clamped `⌊log₂ y⌋ + 1` (`expo`). `field_expo` says that
   they are the same exponent for every `y ≥ 0`, and `invOf_field`, `stepOf_field` read the kernel's two words of the field
   as the reference's two powers of two. Nothing here mentions a program. -/
module

public import Idealize.ShloMosaic.PureOps.Ideal
public import Idealize.ShloMosaic.PureOps.Ideal.Laws

@[expose] public section

noncomputable section

namespace GeluQuant

open Idealize.ShloMosaic

/-! ## Powers of two as float words -/

/-- The extended real of the word whose exponent field is `E` and whose other bits are zero. -/
def pw (E : ℕ) : EReal := Ideal.ofBits .f32 (BitVec.ofNat 32 (E * 2 ^ 23))

theorem pw_zero : pw 0 = 0 := by simp [pw, Ideal.ofBits, Ideal.ieee]

/-- A field strictly between 0 and 255 is a normal power of two. -/
theorem pw_normal (E : ℕ) (h0 : 0 < E) (h1 : E < 255) : pw E = (((2 : ℝ) ^ ((E : ℤ) - 127) : ℝ) : EReal) := by
  have hn : (BitVec.ofNat 32 (E * 2 ^ 23)).toNat = E * 2 ^ 23 := by
    rw [BitVec.toNat_ofNat]; omega
  have hneg : ((BitVec.ofNat 32 (E * 2 ^ 23)).extractLsb' (8 + 23) 1 == 1#1) = false := by
    rw [beq_eq_false_iff_ne]
    intro h
    have := congrArg BitVec.toNat h
    rw [BitVec.extractLsb'_toNat, hn, Nat.shiftRight_eq_div_pow] at this
    simp at this
    omega
  have hex : ((BitVec.ofNat 32 (E * 2 ^ 23)).extractLsb' 23 8).toNat = E := by
    rw [BitVec.extractLsb'_toNat, hn, Nat.shiftRight_eq_div_pow]; omega
  have hfr : ((BitVec.ofNat 32 (E * 2 ^ 23)).extractLsb' 0 23).toNat = 0 := by
    rw [BitVec.extractLsb'_toNat, hn, Nat.shiftRight_eq_div_pow]; omega
  unfold pw Ideal.ofBits Ideal.ieee
  simp only [FTy.bits] at *
  rw [hneg, hex, hfr]
  rw [if_neg (by omega), if_neg (by omega)]
  congr 1
  simp only [Bool.false_eq_true, if_false, one_mul, add_zero]
  rw [show ((E : ℤ) - 127) = ((E : ℤ) - (2 ^ (8 - 1) - 1) - (23 : ℕ)) + (23 : ℕ) by norm_num, zpow_add₀ (by norm_num), mul_comm]
  norm_num

theorem pw_le_of_le {D E : ℕ} (hE : E < 255) (h : D ≤ E) : pw D ≤ pw E := by
  rcases Nat.eq_zero_or_pos D with rfl | hD
  · rcases Nat.eq_zero_or_pos E with rfl | hE0
    · exact le_rfl
    · rw [pw_zero, pw_normal E hE0 hE]; exact EReal.coe_nonneg.mpr (zpow_pos (by norm_num) _).le
  · rw [pw_normal D hD (by omega), pw_normal E (by omega) hE]
    exact EReal.coe_le_coe_iff.mpr (zpow_le_zpow_right₀ (by norm_num) (by omega))

/-! ## The search for the field, one bit at a time -/

/-- One step of the search: take the bit `b` into the field `t` unless `y` lies below the word that has it. -/
def bitStep (y : EReal) (t b : BitVec 32) : BitVec 32 :=
  Scalar.select (Ideal.cmp .olt y (Ideal.ofBits .f32 (t + b))) t (t + b)

/-- The search over the eight bits of the field, from the highest down. -/
def search (y : EReal) : BitVec 32 :=
  bitStep y (bitStep y (bitStep y (bitStep y (bitStep y (bitStep y (bitStep y (bitStep y 0#32
    1073741824#32) 536870912#32) 268435456#32) 134217728#32) 67108864#32) 33554432#32) 16777216#32) 8388608#32

/-- The kernel's field of `y`: the search at `y` capped at `2 ^ 125`. -/
def field (y : EReal) : BitVec 32 := search (min y (Ideal.ofBits .f32 0x7E000000#32))

/-- A step at a field `E`, with the bit of weight `w`. -/
theorem bitStep_ofNat (y : EReal) (E w : ℕ) :
    bitStep y (BitVec.ofNat 32 (E * 2 ^ 23)) (BitVec.ofNat 32 (w * 2 ^ 23))
      = BitVec.ofNat 32 ((if y < pw (E + w) then E else E + w) * 2 ^ 23) := by
  unfold bitStep
  rw [← BitVec.ofNat_add, ← Nat.add_mul]
  change Scalar.select (Ideal.cmp .olt y (pw (E + w))) _ _ = _
  by_cases h : y < pw (E + w)
  · simp [Ideal.cmp, h, Scalar.select]
  · simp [Ideal.cmp, h, Scalar.select]

/-- `t` holds a field `E` that brackets `y`: at most `y`, and `y` below the field `E + w` unless that one leaves the eight
    bits. -/
def Brackets (y : EReal) (w : ℕ) (t : BitVec 32) : Prop :=
  ∃ E : ℕ, t = BitVec.ofNat 32 (E * 2 ^ 23) ∧ E + w ≤ 256 ∧ pw E ≤ y ∧ (y < pw (E + w) ∨ E + w = 256)

theorem Brackets.step {y : EReal} {w : ℕ} {t : BitVec 32} (h : Brackets y (w + w) t) :
    Brackets y w (bitStep y t (BitVec.ofNat 32 (w * 2 ^ 23))) := by
  obtain ⟨E, rfl, hb, hE, hw⟩ := h
  rw [bitStep_ofNat]
  by_cases hy : y < pw (E + w)
  · exact ⟨E, by rw [if_pos hy], by omega, hE, Or.inl hy⟩
  · exact ⟨E + w, by rw [if_neg hy], by omega, not_lt.mp hy, by rwa [Nat.add_assoc]⟩

/-- What the kernel's field is: an `E ≤ 252` whose power of two and the next one bracket the capped `y`. -/
theorem field_brackets (y : EReal) (hy : 0 ≤ y) :
    ∃ E : ℕ, E ≤ 252 ∧ field y = BitVec.ofNat 32 (E * 2 ^ 23) ∧ pw E ≤ min y (pw 252) ∧ min y (pw 252) < pw (E + 1) := by
  have h0 : Brackets (min y (pw 252)) 256 0#32 :=
    ⟨0, by simp, le_rfl, by rw [pw_zero]; exact le_min hy (by rw [← pw_zero]; exact pw_le_of_le (by omega) (by omega)), Or.inr rfl⟩
  have h1 : Brackets (min y (pw 252)) 1 (field y) :=
    (((((((h0.step (w := 128)).step (w := 64)).step (w := 32)).step (w := 16)).step (w := 8)).step (w := 4)).step (w := 2)).step
      (w := 1)
  obtain ⟨E, hE, hb, hle, hlt⟩ := h1
  have h252 : pw E ≤ pw 252 := hle.trans (min_le_right _ _)
  have hE' : E ≤ 252 := by
    by_contra hc
    rw [pw_normal 252 (by omega) (by omega)] at h252
    rcases Nat.lt_or_ge E 255 with h | h
    · rw [pw_normal E (by omega) h, EReal.coe_le_coe_iff] at h252
      exact absurd h252 (not_le.mpr (zpow_lt_zpow_right₀ (by norm_num) (by omega)))
    · obtain rfl : E = 255 := by omega
      rw [show pw 255 = ⊤ by simp [pw, Ideal.ofBits, Ideal.ieee], top_le_iff] at h252
      exact EReal.coe_ne_top _ h252
  exact ⟨E, hE', hE, hle, hlt.resolve_right (by omega)⟩

/-! ## The reference's exponent -/

/-- The reference's exponent of `y`: `⌊log₂ y⌋ + 1` between `-126` and `126`. -/
def expo (y : EReal) : EReal :=
  min (Ideal.ofBits .f32 0x42FC0000#32) (max (Ideal.ofBits .f32 0xC2FC0000#32)
    (Ideal.liftRound Int.floor (Ideal.div (Ideal.log y) (Ideal.log (Ideal.ofBits .f32 0x40000000#32)))
      + Ideal.ofBits .f32 0x3F800000#32))

theorem ofBits_126 : Ideal.ofBits .f32 0x42FC0000#32 = ((126 : ℝ) : EReal) := by
  simp [Ideal.ofBits, Ideal.ieee, -EReal.coe_mul]; norm_num
theorem ofBits_neg_126 : Ideal.ofBits .f32 0xC2FC0000#32 = ((-126 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

theorem log_two_pos : 0 < Real.log 2 := Real.log_pos (by norm_num)

/-- `expo` at an infinite argument. -/
theorem expo_top : expo ⊤ = ((126 : ℝ) : EReal) := by
  unfold expo
  rw [Ideal.log_top, ofBits_two, ofBits_126, ofBits_neg_126, ofBits_one, Ideal.log_coe, if_neg (by norm_num),
    Ideal.div_coe log_two_pos.ne', EReal.top_mul_coe_of_pos (one_div_pos.mpr log_two_pos), Ideal.liftRound_top,
    EReal.top_add_coe, max_eq_right le_top, min_eq_left le_top]

/-- `expo` at zero: the least exponent. -/
theorem expo_zero : expo 0 = ((-126 : ℝ) : EReal) := by
  unfold expo
  rw [← EReal.coe_zero, Ideal.log_coe, if_pos le_rfl, ofBits_two, ofBits_126, ofBits_neg_126, ofBits_one, Ideal.log_coe,
    if_neg (by norm_num), Ideal.div_coe log_two_pos.ne', EReal.bot_mul_coe_of_pos (one_div_pos.mpr log_two_pos),
    Ideal.liftRound_bot, EReal.bot_add, max_eq_left bot_le, min_eq_right]
  exact_mod_cast (by norm_num : (-126 : ℝ) ≤ 126)

/-- `expo` at a positive real: the clamped integer. -/
theorem expo_coe (r : ℝ) (hr : 0 < r) :
    expo (r : EReal) = ((min 126 (max (-126) (⌊Real.log r / Real.log 2⌋ + 1)) : ℤ) : ℝ) := by
  unfold expo
  rw [Ideal.log_coe, if_neg (not_le.mpr hr), ofBits_two, ofBits_126, ofBits_neg_126, ofBits_one, Ideal.log_coe,
    if_neg (by norm_num), Ideal.div_coe log_two_pos.ne', ← EReal.coe_mul, mul_one_div, Ideal.liftRound_coe, ← EReal.coe_add,
    ← EReal.coe_strictMono.monotone.map_max, ← EReal.coe_strictMono.monotone.map_min]
  congr 1
  push_cast
  rfl

/-- `2 ^ n ≤ r` bounds `⌊log₂ r⌋` from below. -/
theorem le_floor_log {r : ℝ} {n : ℤ} (h : (2 : ℝ) ^ n ≤ r) : n ≤ ⌊Real.log r / Real.log 2⌋ := by
  rw [Int.le_floor, le_div_iff₀ log_two_pos, ← Real.log_zpow]
  exact Real.log_le_log (zpow_pos (by norm_num) _) h

/-- `r < 2 ^ n` bounds `⌊log₂ r⌋` from above. -/
theorem floor_log_lt {r : ℝ} {n : ℤ} (hr : 0 < r) (h : r < (2 : ℝ) ^ n) : ⌊Real.log r / Real.log 2⌋ < n := by
  rw [Int.floor_lt, div_lt_iff₀ log_two_pos, ← Real.log_zpow]
  exact Real.log_lt_log hr h

/-- The kernel's field and the reference's exponent: for every `y ≥ 0` there is a field `E` of the kernel's, and the
    reference's exponent is `E - 126`. -/
theorem field_expo (y : EReal) (hy : 0 ≤ y) :
    ∃ E : ℕ, E ≤ 252 ∧ field y = BitVec.ofNat 32 (E * 2 ^ 23) ∧ expo y = (((E : ℤ) - 126 : ℤ) : ℝ) := by
  obtain ⟨E, hE, hf, hle, hlt⟩ := field_brackets y hy
  refine ⟨E, hE, hf, ?_⟩
  have h252 := pw_normal 252 (by omega) (by omega)
  have hE1 := pw_normal (E + 1) (by omega) (by omega)
  rw [hE1, h252] at hlt
  rw [h252] at hle
  induction y with
  | bot => exact absurd hy (by simp)
  | top =>
    rw [min_eq_right le_top, EReal.coe_lt_coe_iff] at hlt
    have := (zpow_lt_zpow_iff_right₀ (by norm_num : (1 : ℝ) < 2)).mp hlt
    obtain rfl : E = 252 := by omega
    rw [expo_top]; norm_num
  | coe r =>
    have hr0 : 0 ≤ r := by exact_mod_cast hy
    rw [← EReal.coe_strictMono.monotone.map_min] at hlt hle
    rw [EReal.coe_lt_coe_iff] at hlt
    rcases hr0.eq_or_lt with rfl | hr
    · -- zero: the least field
      have hE0 : E = 0 := by
        by_contra h0
        rw [pw_normal E (by omega) (by omega), EReal.coe_le_coe_iff] at hle
        exact absurd (hle.trans (min_le_left _ _)) (not_le.mpr (zpow_pos (by norm_num) _))
      subst hE0
      rw [EReal.coe_zero, expo_zero]; norm_num
    · rw [expo_coe r hr]
      congr 2
      have hlo : E = 0 ∨ (2 : ℝ) ^ ((E : ℤ) - 127) ≤ r := by
        rcases Nat.eq_zero_or_pos E with h0 | h0
        · exact Or.inl h0
        · rw [pw_normal E h0 (by omega), EReal.coe_le_coe_iff] at hle
          exact Or.inr (hle.trans (min_le_left _ _))
      have hhi : E = 252 ∨ r < (2 : ℝ) ^ (((E + 1 : ℕ) : ℤ) - 127) := by
        rcases min_lt_iff.mp hlt with h | h
        · exact Or.inr h
        · have := (zpow_lt_zpow_iff_right₀ (by norm_num : (1 : ℝ) < 2)).mp h
          exact Or.inl (by omega)
      have hlo' : E = 0 ∨ (E : ℤ) - 127 ≤ ⌊Real.log r / Real.log 2⌋ := hlo.imp_right le_floor_log
      have hhi' : E = 252 ∨ ⌊Real.log r / Real.log 2⌋ < ((E + 1 : ℕ) : ℤ) - 127 := hhi.imp_right (floor_log_lt hr)
      omega

/-! ## The kernel's two words of the field -/

/-- The kernel's inverse step of a field: the word `0x7E800000 - t`. -/
def invOf (t : BitVec 32) : EReal := Ideal.ofBits .f32 (2122317824#32 - t)
/-- The kernel's step of a field: the word `t + 0x00800000`. -/
def stepOf (t : BitVec 32) : EReal := Ideal.ofBits .f32 (t + 8388608#32)

theorem exp2_int (n : ℤ) : Ideal.exp2 (((n : ℝ)) : EReal) = (((2 : ℝ) ^ n : ℝ) : EReal) := by
  rw [Ideal.exp2_coe, Real.rpow_eq_pow, Real.rpow_intCast]

/-- The kernel's step is the reference's `2 ^ e`. -/
theorem stepOf_field (y : EReal) (hy : 0 ≤ y) : stepOf (field y) = Ideal.exp2 (expo y) := by
  obtain ⟨E, hE, hf, he⟩ := field_expo y hy
  rw [hf, he, exp2_int]
  have : BitVec.ofNat 32 (E * 2 ^ 23) + 8388608#32 = BitVec.ofNat 32 ((E + 1) * 2 ^ 23) := by
    rw [Nat.add_mul, BitVec.ofNat_add, Nat.one_mul]
    rfl
  unfold stepOf
  rw [this]
  refine (pw_normal (E + 1) (by omega) (by omega)).trans ?_
  rw [show (((E + 1 : ℕ) : ℤ) - 127) = (E : ℤ) - 126 by push_cast; ring]

/-- The kernel's inverse step is the reference's `2 ^ (0 - e)`. -/
theorem invOf_field (y : EReal) (hy : 0 ≤ y) : invOf (field y) = Ideal.exp2 (0 - expo y) := by
  obtain ⟨E, hE, hf, he⟩ := field_expo y hy
  have h0 : (0 : EReal) - (((((E : ℤ) - 126 : ℤ) : ℝ)) : EReal) = (((126 - (E : ℤ) : ℤ) : ℝ) : EReal) := by
    rw [zero_sub, ← EReal.coe_neg]; congr 1; push_cast; ring
  rw [hf, he, h0, exp2_int]
  have : 2122317824#32 - BitVec.ofNat 32 (E * 2 ^ 23) = BitVec.ofNat 32 ((253 - E) * 2 ^ 23) := by
    have hs : BitVec.ofNat 32 (253 * 2 ^ 23) = BitVec.ofNat 32 ((253 - E) * 2 ^ 23) + BitVec.ofNat 32 (E * 2 ^ 23) := by
      rw [← BitVec.ofNat_add ((253 - E) * 2 ^ 23) (E * 2 ^ 23), ← Nat.add_mul, Nat.sub_add_cancel (by omega)]
    have hc : 2122317824#32 = BitVec.ofNat 32 (253 * 2 ^ 23) := rfl
    rw [hc, hs, BitVec.add_sub_cancel]
  unfold invOf
  rw [this]
  refine (pw_normal (253 - E) (by omega) (by omega)).trans ?_
  rw [show (((253 - E : ℕ) : ℤ) - 127) = 126 - (E : ℤ) by omega]

end GeluQuant

end
-- ==== Proof.Element.lean ====
/- One element of the computation: the linear layer, its gelu, the largest absolute value of a group of 128, and the group's
   scale and codes, in the form the kernel computes them and in the form the reference states them, shown equal. -/
module

public import proofs.«01_k».proof.Proof.Exponent

@[expose] public section

noncomputable section

namespace GeluQuant

open Idealize.ShloMosaic

/-! ## The linear layer and its gelu -/

/-- One output of the linear layer: the product of a row and a column, scaled by the row's and the column's scale, and biased. -/
def dense {K : ℕ} (x w : Fin K → EReal) (xs ws b : EReal) : EReal := (∑ k, x k * w k) * xs * ws + b

/-- The kernel's gelu. -/
def gelu (h : EReal) : EReal :=
  Ideal.ofBits .f32 0x3F000000#32 * h * (Ideal.ofBits .f32 0x3F800000#32 + Ideal.erf (h * Ideal.ofBits .f32 0x3F3504F3#32))

/-- The reference's gelu. -/
def geluRef (h : EReal) : EReal :=
  Ideal.ofBits .f32 0x3F000000#32 * h
    * (Ideal.ofBits .f32 0x3F800000#32 - Ideal.erf ((Ideal.ofBits .f32 0x00000000#32 - h) * Ideal.ofBits .f32 0x3F3504F3#32))

theorem ofBits_zero : Ideal.ofBits .f32 0x00000000#32 = 0 := by simp [Ideal.ofBits, Ideal.ieee]

/-- The two gelus are one: erf is odd. -/
theorem geluRef_eq (h : EReal) : geluRef h = gelu h := by
  unfold geluRef gelu
  rw [ofBits_zero, zero_sub, EReal.neg_mul, Ideal.erf_neg, sub_eq_add_neg, neg_neg]

/-! ## A group of 128 -/

/-- The largest absolute value of a group. -/
def amax (v : Fin 128 → EReal) : EReal :=
  (Finset.univ : Finset (Fin 128)).fold max (Ideal.ofBits .f32 0xFF800000#32) fun l => max (v l) (-v l)

theorem abs_nonneg (x : EReal) : 0 ≤ max x (-x) := by
  rcases le_total 0 x with h | h
  · exact le_max_of_le_left h
  · exact le_max_of_le_right (EReal.neg_nonneg.mpr h)

theorem abs_le_amax (v : Fin 128 → EReal) (l : Fin 128) : max (v l) (-v l) ≤ amax v :=
  (Finset.le_fold_max _).mpr (.inr ⟨l, Finset.mem_univ l, le_rfl⟩)

theorem amax_nonneg (v : Fin 128 → EReal) : 0 ≤ amax v := (abs_nonneg (v 0)).trans (abs_le_amax v 0)

/-- A group whose largest absolute value is zero is zero. -/
theorem eq_zero_of_amax (v : Fin 128 → EReal) (h : amax v = 0) (l : Fin 128) : v l = 0 := by
  have hl := (abs_le_amax v l).trans h.le
  exact le_antisymm ((le_max_left _ _).trans hl)
    (EReal.neg_le_neg_iff.mp (by rw [neg_zero]; exact (le_max_right _ _).trans hl))

/-- The largest absolute value over 448, whose power of two is the scale. -/
def over (a : EReal) : EReal := a * Ideal.ofBits .f32 0x3B124925#32

theorem over_nonneg (a : EReal) (h : 0 ≤ a) : 0 ≤ over a := by
  have hc : (0 : EReal) ≤ Ideal.ofBits .f32 0x3B124925#32 := by
    have he : (991054117 >>> 23 % 256 : ℕ) = 118 := rfl
    have hs : ¬ BitVec.extractLsb' 31 1 991054117#32 = 1#1 := by decide
    simp [Ideal.ofBits, Ideal.ieee, he, hs]
    positivity
  exact mul_nonneg h hc

/-- The kernel's scale of a group whose largest absolute value is `a`. -/
def scale (a : EReal) : EReal :=
  Scalar.select (Ideal.cmp .oeq a (Ideal.ofBits .f32 0x00000000#32)) (Ideal.ofBits .f32 0x3F800000#32) (stepOf (field (over a)))

/-- The kernel's code of element `l` of a group. -/
def code (v : Fin 128 → EReal) (l : Fin 128) : EReal := v l * invOf (field (over (amax v)))

/-- The reference's exponent: zero for a zero group. -/
def expoRef (a : EReal) : EReal :=
  Scalar.select (Ideal.cmp .oeq a (Ideal.ofBits .f32 0x00000000#32)) (Ideal.ofBits .f32 0x00000000#32) (expo (over a))

/-- The reference's scale. -/
def scaleRef (a : EReal) : EReal := Ideal.exp2 (expoRef a)

/-- The reference's code. -/
def codeRef (v : Fin 128 → EReal) (l : Fin 128) : EReal :=
  v l * Ideal.exp2 (Ideal.ofBits .f32 0x00000000#32 - expoRef (amax v))

theorem expoRef_zero : expoRef 0 = 0 := by
  simp [expoRef, ofBits_zero, Ideal.cmp, Scalar.select]

theorem expoRef_pos (a : EReal) (h : a ≠ 0) : expoRef a = expo (over a) := by
  simp [expoRef, ofBits_zero, Ideal.cmp, Scalar.select, h]

theorem exp2_zero : Ideal.exp2 0 = 1 := by
  have := exp2_int 0
  simpa using this

/-- The scales are equal. -/
theorem scaleRef_eq (v : Fin 128 → EReal) : scaleRef (amax v) = scale (amax v) := by
  unfold scaleRef
  by_cases h : amax v = 0
  · rw [h, expoRef_zero, exp2_zero]
    simp [scale, ofBits_zero, ofBits_one, Ideal.cmp, Scalar.select]
  · rw [expoRef_pos _ h, ← stepOf_field _ (over_nonneg _ (amax_nonneg v))]
    simp [scale, ofBits_zero, Ideal.cmp, Scalar.select, h]

/-- The codes are equal: in a zero group both are zero. -/
theorem codeRef_eq (v : Fin 128 → EReal) (l : Fin 128) : codeRef v l = code v l := by
  unfold codeRef code
  by_cases h : amax v = 0
  · rw [eq_zero_of_amax v h l, zero_mul, zero_mul]
  · rw [expoRef_pos _ h, ofBits_zero, ← invOf_field _ (over_nonneg _ (amax_nonneg v))]

end GeluQuant

end
-- ==== Proof.KernelGroup.lean ====
/- The kernel body's eight column groups. The body is one text repeated for the groups of 128 columns of its block; here
   that text is written once, over the group's columns, and each of the two output blocks is shown to be made of it
   (`out5_eq`, `out6_eq`). -/
module

public import proofs.«01_k».proof.Proof.Gen.KernelIdeal.Frame
public import Idealize.ShloMosaic.Lib.Pipeline.Value

@[expose] public section

noncomputable section

namespace GeluQuant.Kernel

open Cert.KernelIdeal Cert.KernelIdeal.Gen Idealize.ShloMosaic Idealize.SL.Sem

variable {F : FTy → Type} [FloatOps F]

/-- The largest absolute value of each row of a group. -/
def absMax (s : FVec F S512x128 .f32) : FVec F S512x1 .f32 :=
  shapeCast S512x1 (multiReduction .maximumf [1] S512 (absf s) 0xFF800000#32 reduces_S512x128_S512 (.inl rfl) rfl)
    shapeCasts_S512_S512x1

/-- One step of the search for the exponent field: the bit is kept unless that passes the float. -/
def stepV (y : FVec F S512x1 .f32) (t : IVec S512x1 32) (b : BitVec 32) : IVec S512x1 32 :=
  select (cmpf .olt y (bitcastToFloat .f32 (addi t (broadcast S512x1 b)))) t (addi t (broadcast S512x1 b))

/-- The float whose exponent field is searched for: the row's largest absolute value over 448, capped. -/
def capped (a : FVec F S512x1 .f32) : FVec F S512x1 .f32 :=
  minimumf (mulf a (broadcast S512x1 (Scalar.ofBits .f32 0x3B124925#32))) (broadcast S512x1 (Scalar.ofBits .f32 0x7E000000#32))

/-- The exponent field found, bit 30 down to bit 23. -/
def searchV (y : FVec F S512x1 .f32) : IVec S512x1 32 :=
  stepV y (stepV y (stepV y (stepV y (stepV y (stepV y (stepV y (stepV y (broadcast S512x1 0#32)
    1073741824#32) 536870912#32) 268435456#32) 134217728#32) 67108864#32) 33554432#32) 16777216#32) 8388608#32

/-- A row's exponent field. -/
def fieldV (s : FVec F S512x128 .f32) : IVec S512x1 32 := searchV (capped (absMax s))

/-- The inverse scale of each row. -/
def invV (s : FVec F S512x128 .f32) : FVec F S512x1 .f32 :=
  bitcastToFloat .f32 (subi (broadcast S512x1 2122317824#32) (fieldV s))

/-- The scale of each row, one where the row is zero. -/
def scaleV (s : FVec F S512x128 .f32) : FVec F S512x1 .f32 :=
  select (cmpf .oeq (absMax s) (broadcast S512x1 (Scalar.ofBits .f32 0x00000000#32)))
    (broadcast S512x1 (Scalar.ofBits .f32 0x3F800000#32))
    (bitcastToFloat .f32 (addi (fieldV s) (broadcast S512x1 8388608#32)))

/-- The group's codes. -/
def codesV (s : FVec F S512x128 .f32) : FVec F S512x128 .fp8e4m3 :=
  truncf .fp8e4m3 (mulf s (broadcastTo S512x128 (invV s) broadcasts_S512x1_S512x128)) bitsLt_fp8e4m3_f32

/-- The lane of the scale block that each group's column of scales goes to. -/
def lanes : IVec S512x8 32 := iota .tc S512x8 32 [1] iota_S512x8_d1_w32

/-- The scale block with group `k`'s scales put in lane `k`. -/
def putV (k : BitVec 32) (s : FVec F S512x128 .f32) (prev : FVec F S512x8 .f32) : FVec F S512x8 .f32 :=
  select (cmpi .eq lanes (broadcast S512x8 k))
    (broadcastTo S512x8 (shapeCast S512x1 (scaleV s) shapeCasts_S512x1_S512x1) broadcasts_S512x1_S512x8) prev

/-- The eight groups of columns of the gelu block. -/
def cols0 (g : FVec F S512x1024 .f32) : FVec F S512x128 .f32 := extractStridedSlice S512x128 ![0, 0] g slices_S512x1024_o0_0_S512x128
def cols1 (g : FVec F S512x1024 .f32) : FVec F S512x128 .f32 := extractStridedSlice S512x128 ![0, 128] g slices_S512x1024_o0_128_S512x128
def cols2 (g : FVec F S512x1024 .f32) : FVec F S512x128 .f32 := extractStridedSlice S512x128 ![0, 256] g slices_S512x1024_o0_256_S512x128
def cols3 (g : FVec F S512x1024 .f32) : FVec F S512x128 .f32 := extractStridedSlice S512x128 ![0, 384] g slices_S512x1024_o0_384_S512x128
def cols4 (g : FVec F S512x1024 .f32) : FVec F S512x128 .f32 := extractStridedSlice S512x128 ![0, 512] g slices_S512x1024_o0_512_S512x128
def cols5 (g : FVec F S512x1024 .f32) : FVec F S512x128 .f32 := extractStridedSlice S512x128 ![0, 640] g slices_S512x1024_o0_640_S512x128
def cols6 (g : FVec F S512x1024 .f32) : FVec F S512x128 .f32 := extractStridedSlice S512x128 ![0, 768] g slices_S512x1024_o0_768_S512x128
def cols7 (g : FVec F S512x1024 .f32) : FVec F S512x128 .f32 := extractStridedSlice S512x128 ![0, 896] g slices_S512x1024_o0_896_S512x128

/-- The scale block of a gelu block. -/
def scales (g : FVec F S512x1024 .f32) : FVec F S512x8 .f32 :=
  putV 7#32 (cols7 g) (putV 6#32 (cols6 g) (putV 5#32 (cols5 g) (putV 4#32 (cols4 g) (putV 3#32 (cols3 g) (putV 2#32 (cols2 g)
    (putV 1#32 (cols1 g) (putV 0#32 (cols0 g) (broadcast S512x8 (Scalar.ofBits .f32 0x3F800000#32)))))))))

/-- A whole rectangle at the origin reads the block itself. -/
theorem hz2 : (![0, 0] : Fin 2 → Nat) = fun _ => 0 := funext fun a => by fin_cases a <;> rfl

variable (x0 : Vec F S512x2176 .fp8e4m3) (x1 : Vec F S512x1 .f32) (x2 : Vec F S2176x1024 .fp8e4m3) (x3 : Vec F S1x1024 .f32)
  (x4 : Vec F S1x1024 .bf16)

/-- The gelu block of the five input blocks. -/
theorem pay74_eq : k0_pay74 x0 x1 x2 x3 x4 = k0_pay4 x0 x2 x1 x3 x4 := by
  unfold k0_pay74
  rw [View.ld_unit_zero hz2, View.ld_unit_zero hz2, View.ld_unit_zero hz2, View.ld_unit_zero hz2, View.ld_unit_zero hz2]

/-- The codes block's eight pieces, one per group. -/
theorem out5_eq : out0_5 x0 x1 x2 x3 x4 =
    View.canon [⟨r0_11, codesV (cols7 (k0_pay74 x0 x1 x2 x3 x4))⟩, ⟨r0_10, codesV (cols6 (k0_pay74 x0 x1 x2 x3 x4))⟩,
      ⟨r0_9, codesV (cols5 (k0_pay74 x0 x1 x2 x3 x4))⟩, ⟨r0_8, codesV (cols4 (k0_pay74 x0 x1 x2 x3 x4))⟩,
      ⟨r0_7, codesV (cols3 (k0_pay74 x0 x1 x2 x3 x4))⟩, ⟨r0_6, codesV (cols2 (k0_pay74 x0 x1 x2 x3 x4))⟩,
      ⟨r0_5, codesV (cols1 (k0_pay74 x0 x1 x2 x3 x4))⟩, ⟨r0_4, codesV (cols0 (k0_pay74 x0 x1 x2 x3 x4))⟩] := rfl

/-- The scale block is one piece. -/
theorem out6_eq : out0_6 x0 x1 x2 x3 x4 =
    View.canon [⟨r0_12, shapeCast S1x512x8 (scales (k0_pay74 x0 x1 x2 x3 x4)) shapeCasts_S512x8_S1x512x8⟩] := rfl

end GeluQuant.Kernel

end
-- ==== Proof.KernelBlock.lean ====
/- The kernel's two output blocks at an index: the codes block holds each group's codes (`out5_apply`), the scale block
   each group's scale (`out6_apply`), the groups being those of the gelu of the blocks' product (`pay4_apply`). -/
module

public import proofs.«01_k».proof.Proof.Element
public import proofs.«01_k».proof.Proof.Layout
public import proofs.«01_k».proof.Proof.KernelGroup

@[expose] public section

noncomputable section

namespace GeluQuant.Kernel

open Cert.KernelIdeal Cert.KernelIdeal.Gen Idealize.ShloMosaic Idealize.ShloMosaic.ValueIdx Idealize.SL.Sem

/-! ## A group's columns -/

/-- The reduced axis put back into a row's index. -/
theorem lift_row (r : Fin 512) (l : Fin 128) : reduces_S512x128_S512.lift (ix1 r) l = ix2 r l := by
  funext c; apply Fin.ext
  match c with
  | ⟨0, _⟩ => rfl
  | ⟨1, _⟩ => rfl

theorem absMax_apply (s : FVec Ideal S512x128 .f32) (r : Fin 512) (u : Fin 1) :
    absMax s (ix2 r u) = amax fun l => s (ix2 r l) := by
  unfold absMax
  refine (shapeCast_a_a1_apply _ shapeCasts_S512_S512x1 r u).trans ?_
  refine (Ideal.multiReduction_maximumf_single (absf s) 0xFF800000#32 reduces_S512x128_S512 (.inl rfl) rfl (ix1 r)).trans ?_
  unfold amax
  refine congrArg (fun f => (Finset.univ : Finset (Fin 128)).fold max (Ideal.ofBits .f32 0xFF800000#32) f) (funext fun l => ?_)
  exact congrArg (absf s) (lift_row r l)

theorem stepV_apply (y : FVec Ideal S512x1 .f32) {t : IVec S512x1 32} (b : BitVec 32) {i : S512x1.Idx} {t' : BitVec 32}
    (h : t i = t') : stepV y t b i = bitStep (y i) t' b := by
  subst h
  rfl

theorem searchV_apply (y : FVec Ideal S512x1 .f32) (i : S512x1.Idx) : searchV y i = search (y i) :=
  stepV_apply y _ (stepV_apply y _ (stepV_apply y _ (stepV_apply y _ (stepV_apply y _ (stepV_apply y _ (stepV_apply y _
    (stepV_apply y _ rfl)))))))

theorem capped_apply (a : FVec Ideal S512x1 .f32) (i : S512x1.Idx) :
    capped a i = min (over (a i)) (Ideal.ofBits .f32 0x7E000000#32) := rfl

theorem fieldV_apply (s : FVec Ideal S512x128 .f32) (r : Fin 512) (u : Fin 1) :
    fieldV s (ix2 r u) = field (over (amax fun l => s (ix2 r l))) := by
  rw [← absMax_apply s r u]
  unfold fieldV field
  rw [searchV_apply, capped_apply]

/-- The word of the inverse scale, for any field. -/
theorem invWord_apply (t : IVec S512x1 32) (i : S512x1.Idx) :
    (bitcastToFloat .f32 (subi (broadcast S512x1 2122317824#32) t) : FVec Ideal S512x1 .f32) i = invOf (t i) := rfl

/-- The word of the scale, for any field. -/
theorem stepWord_apply (t : IVec S512x1 32) (i : S512x1.Idx) :
    (bitcastToFloat .f32 (addi t (broadcast S512x1 8388608#32)) : FVec Ideal S512x1 .f32) i = stepOf (t i) := rfl

theorem invV_apply (s : FVec Ideal S512x128 .f32) (r : Fin 512) (u : Fin 1) :
    invV s (ix2 r u) = invOf (field (over (amax fun l => s (ix2 r l)))) := by
  rw [← fieldV_apply s r u]
  exact invWord_apply _ _

/-- One where the largest absolute value is zero, the word's float elsewhere. -/
theorem scaleSelect_apply (a w : FVec Ideal S512x1 .f32) (i : S512x1.Idx) :
    select (cmpf .oeq a (broadcast S512x1 (Scalar.ofBits .f32 0x00000000#32)))
        (broadcast S512x1 (Scalar.ofBits .f32 0x3F800000#32)) w i
      = Scalar.select (Ideal.cmp .oeq (a i) (Ideal.ofBits .f32 0x00000000#32)) (Ideal.ofBits .f32 0x3F800000#32) (w i) := rfl

theorem scaleV_apply (s : FVec Ideal S512x128 .f32) (r : Fin 512) (u : Fin 1) :
    scaleV s (ix2 r u) = scale (amax fun l => s (ix2 r l)) := by
  unfold scale
  rw [← fieldV_apply s r u, ← absMax_apply s r u, ← stepWord_apply]
  unfold scaleV
  exact scaleSelect_apply (absMax s) _ (ix2 r u)

theorem codesV_apply (s : FVec Ideal S512x128 .f32) (r : Fin 512) (l : Fin 128) :
    codesV s (ix2 r l) = code (fun l => s (ix2 r l)) l := by
  show s (ix2 r l) * broadcastTo S512x128 (invV s) broadcasts_S512x1_S512x128 (ix2 r l) = _
  rw [show broadcastTo S512x128 (invV s) broadcasts_S512x1_S512x128 (ix2 r l) = invV s (ix2 r 0) from
    broadcastTo_a1_ab_apply _ _ r l, invV_apply]
  rfl

/-! ## The eight groups of a block -/

/-- Column `128 k + l` of a block of 1024 columns. -/
def col (k : Fin 8) (l : Fin 128) : Fin 1024 := ⟨128 * k.val + l.val, by omega⟩

/-- Group `k` of row `r` of a block. -/
def grp (g : FVec Ideal S512x1024 .f32) (r : Fin 512) (k : Fin 8) : Fin 128 → EReal := fun l => g (ix2 r (col k l))

section Cols
variable (g : FVec Ideal S512x1024 .f32) (r : Fin 512)
theorem cols0_row : (fun l => cols0 g (ix2 r l)) = grp g r 0 := funext fun l => slice2_axis1_apply _ g _ r l (col 0 l) rfl
theorem cols1_row : (fun l => cols1 g (ix2 r l)) = grp g r 1 := funext fun l => slice2_axis1_apply _ g _ r l (col 1 l) rfl
theorem cols2_row : (fun l => cols2 g (ix2 r l)) = grp g r 2 := funext fun l => slice2_axis1_apply _ g _ r l (col 2 l) rfl
theorem cols3_row : (fun l => cols3 g (ix2 r l)) = grp g r 3 := funext fun l => slice2_axis1_apply _ g _ r l (col 3 l) rfl
theorem cols4_row : (fun l => cols4 g (ix2 r l)) = grp g r 4 := funext fun l => slice2_axis1_apply _ g _ r l (col 4 l) rfl
theorem cols5_row : (fun l => cols5 g (ix2 r l)) = grp g r 5 := funext fun l => slice2_axis1_apply _ g _ r l (col 5 l) rfl
theorem cols6_row : (fun l => cols6 g (ix2 r l)) = grp g r 6 := funext fun l => slice2_axis1_apply _ g _ r l (col 6 l) rfl
theorem cols7_row : (fun l => cols7 g (ix2 r l)) = grp g r 7 := funext fun l => slice2_axis1_apply _ g _ r l (col 7 l) rfl
end Cols

/-- The codes block as a function of its index. -/
def codeAt (g : FVec Ideal S512x1024 .f32) (y : S512x1024.Idx) : EReal :=
  code (grp g (y 0) ⟨(y 1).val / 128, by have := idx2_lt1 y; omega⟩) ⟨(y 1).val % 128, Nat.mod_lt _ (by norm_num)⟩

/-- A group's codes at its place in the block. -/
theorem codesV_at (g : FVec Ideal S512x1024 .f32) (s : FVec Ideal S512x128 .f32) (k : Fin 8)
    (hs : ∀ r, (fun l => s (ix2 r l)) = grp g r k) (x : S512x128.Idx) (y : S512x1024.Idx)
    (h0 : (y 0).val = (x 0).val) (h1 : (y 1).val = 128 * k.val + (x 1).val) : codesV s x = codeAt g y := by
  have hx : (x 1).val < 128 := idx2_lt1 x
  have e0 : y 0 = x 0 := Fin.ext h0
  have e1 : (⟨(y 1).val / 128, by have := idx2_lt1 y; omega⟩ : Fin 8) = k := Fin.ext (by show (y 1).val / 128 = k.val; omega)
  have e2 : (⟨(y 1).val % 128, Nat.mod_lt _ (by norm_num)⟩ : Fin 128) = x 1 := Fin.ext (by show (y 1).val % 128 = (x 1).val; omega)
  unfold codeAt
  rw [e1, e2]
  refine (congrArg (codesV s) (eq_ix2 x)).trans ((codesV_apply s (x 0) (x 1)).trans ?_)
  refine (congrArg (fun f => code f (x 1)) (hs (x 0))).trans ?_
  exact congrArg (fun r => code (grp g r k) (x 1)) e0.symm

section Blocks
variable (x0 : Vec Ideal S512x2176 .fp8e4m3) (x1 : Vec Ideal S512x1 .f32) (x2 : Vec Ideal S2176x1024 .fp8e4m3)
  (x3 : Vec Ideal S1x1024 .f32) (x4 : Vec Ideal S1x1024 .bf16)

/-- The codes block at an index. -/
theorem out5_apply (y : S512x1024.Idx) : out0_5 x0 x1 x2 x3 x4 y = codeAt (k0_pay4 x0 x2 x1 x3 x4) y := by
  rw [out5_eq, pay74_eq]
  refine View.canon_apply_of_pieces (Val := Elt Ideal) (e := .fp8e4m3) (codeAt (k0_pay4 x0 x2 x1 x3 x4)) _ ?_ y (cover0_5 _ _ _ _ _ _ _ _ y)
  intro p hp x
  have hadd : ∀ n : ℕ, 0 + 1 * n = n := fun n => by omega
  simp only [List.mem_cons, List.not_mem_nil, or_false] at hp
  rcases hp with rfl | rfl | rfl | rfl | rfl | rfl | rfl | rfl
  · exact codesV_at _ _ 7 (fun r => cols7_row _ r) x _ (hadd _) (congrArg (896 + ·) (Nat.one_mul _))
  · exact codesV_at _ _ 6 (fun r => cols6_row _ r) x _ (hadd _) (congrArg (768 + ·) (Nat.one_mul _))
  · exact codesV_at _ _ 5 (fun r => cols5_row _ r) x _ (hadd _) (congrArg (640 + ·) (Nat.one_mul _))
  · exact codesV_at _ _ 4 (fun r => cols4_row _ r) x _ (hadd _) (congrArg (512 + ·) (Nat.one_mul _))
  · exact codesV_at _ _ 3 (fun r => cols3_row _ r) x _ (hadd _) (congrArg (384 + ·) (Nat.one_mul _))
  · exact codesV_at _ _ 2 (fun r => cols2_row _ r) x _ (hadd _) (congrArg (256 + ·) (Nat.one_mul _))
  · exact codesV_at _ _ 1 (fun r => cols1_row _ r) x _ (hadd _) (congrArg (128 + ·) (Nat.one_mul _))
  · exact codesV_at _ _ 0 (fun r => cols0_row _ r) x _ (hadd _) (congrArg (0 + ·) (Nat.one_mul _))

/-! ## The scale block -/

/-- Lane `k` of the scale block after a group's scales are put in lane `n`. -/
theorem putV_apply (n : ℕ) (hn : n < 8) (s : FVec Ideal S512x128 .f32) (prev : FVec Ideal S512x8 .f32) (r : Fin 512) (k : Fin 8) :
    putV (BitVec.ofNat 32 n) s prev (ix2 r k) = if k.val = n then scale (amax fun l => s (ix2 r l)) else prev (ix2 r k) := by
  have hl : lanes (ix2 r k) = BitVec.ofNat 32 k.val := iota_single_apply .tc S512x8 32 1 iota_S512x8_d1_w32 (ix2 r k)
  have hb : broadcastTo S512x8 (shapeCast S512x1 (scaleV s) shapeCasts_S512x1_S512x1) broadcasts_S512x1_S512x8 (ix2 r k)
      = scale (amax fun l => s (ix2 r l)) := by
    rw [shapeCast_self]
    exact (broadcastTo_a1_ab_apply _ _ r k).trans (scaleV_apply s r 0)
  have hk : BitVec.ofNat 32 k.val = BitVec.ofNat 32 n ↔ k.val = n := by
    refine ⟨fun h => ?_, fun h => by rw [h]⟩
    have h' := congrArg BitVec.toNat h
    rw [BitVec.toNat_ofNat, BitVec.toNat_ofNat, Nat.mod_eq_of_lt (by omega), Nat.mod_eq_of_lt (by omega)] at h'
    exact h'
  unfold putV
  rw [select_apply, hb]
  show Scalar.select (IntOp.cmpi .eq (lanes (ix2 r k)) (BitVec.ofNat 32 n)) _ _ = _
  rw [hl]
  by_cases h : k.val = n
  · rw [if_pos h, h]; simp [IntOp.cmpi, Scalar.select]
  · have hb : (BitVec.ofNat 32 k.val == BitVec.ofNat 32 n) = false := beq_eq_false_iff_ne.mpr fun e => h (hk.mp e)
    rw [if_neg h]; simp [IntOp.cmpi, Scalar.select, hb]

/-- The scales of a block. -/
theorem scales_apply (g : FVec Ideal S512x1024 .f32) (r : Fin 512) (k : Fin 8) :
    scales g (ix2 r k) = scale (amax (grp g r k)) := by
  unfold scales
  rw [putV_apply 7 (by norm_num), putV_apply 6 (by norm_num), putV_apply 5 (by norm_num), putV_apply 4 (by norm_num),
    putV_apply 3 (by norm_num), putV_apply 2 (by norm_num), putV_apply 1 (by norm_num), putV_apply 0 (by norm_num),
    cols0_row, cols1_row, cols2_row, cols3_row, cols4_row, cols5_row, cols6_row, cols7_row]
  have h8 : ∀ k : Fin 8, k = 0 ∨ k = 1 ∨ k = 2 ∨ k = 3 ∨ k = 4 ∨ k = 5 ∨ k = 6 ∨ k = 7 := by decide
  rcases h8 k with h | h | h | h | h | h | h | h <;> subst h <;> simp

/-- The scale block at an index. -/
theorem out6_apply (u : Fin 1) (r : Fin 512) (k : Fin 8) :
    out0_6 x0 x1 x2 x3 x4 (ix3 u r k) = scale (amax (grp (k0_pay4 x0 x2 x1 x3 x4) r k)) := by
  have hz3 : (![0, 0, 0] : Fin 3 → Nat) = fun _ => 0 := funext fun a => by fin_cases a <;> rfl
  rw [out6_eq, pay74_eq, View.canon_unit_zero hz3]
  exact (shapeCast_ab_1ab_apply _ _ u r k).trans (scales_apply _ r k)

/-! ## The gelu block -/

/-- The block's product at an index. -/
theorem product_apply (x : FVec Ideal S512x2176 .fp8e4m3) (w : FVec Ideal S2176x1024 .fp8e4m3) (r : Fin 512) (c : Fin 1024) :
    matmul dot_S512x2176_S2176x1024_S512x1024_1_0_0_1_n_n none x w (constant S512x1024 .f32 0x00000000#32) (ix2 r c)
      = ∑ k : Fin 2176, x (ix2 r k) * w (ix2 k c) := by
  refine (Ideal.matmul_plain_apply none x w (constant S512x1024 .f32 0x00000000#32) r c).trans ?_
  rw [constant_apply, ofBits_zero, zero_add]

/-- The block's linear layer and gelu at an index. -/
theorem pay4_apply (r : Fin 512) (c : Fin 1024) :
    k0_pay4 x0 x2 x1 x3 x4 (ix2 r c)
      = gelu (dense (fun k => x0 (ix2 r k)) (fun k => x2 (ix2 k c)) (x1 (ix2 r 0)) (x3 (ix2 0 c)) (x4 (ix2 0 c))) := by
  unfold k0_pay4
  simp only [shapeCast_self]
  refine congrArg gelu (?_ : _ * _ * _ + _ = _)
  unfold dense
  refine congrArg₂ (· + ·) (congrArg₂ (· * ·) (congrArg₂ (· * ·) (product_apply x0 x2 r c) ?_) ?_) ?_
  · exact broadcastTo_a1_ab_apply x1 _ r c
  · exact broadcastTo_1b_ab_apply x3 _ r c
  · exact broadcastTo_1b_ab_apply (extf (s := S1x1024) (φ := .bf16) (F := Ideal) .f32 x4 bitsLt_bf16_f32) _ r c

end Blocks

end GeluQuant.Kernel

end
-- ==== Proof.Spec.lean ====
/- What both programs compute, stated once on the flattened rows: the activation of each row and column, its groups of
   128 columns, and the code and scale of each group. -/
module

public import proofs.«01_k».proof.Proof.Element
public import Idealize.ShloMosaic.Lib.ValueIdx

@[expose] public section

noncomputable section

namespace GeluQuant

open Idealize.ShloMosaic Idealize.ShloMosaic.ValueIdx

/-- Column `l` of group `q`. -/
def gcol (q : Fin 56) (l : Fin 128) : Fin 7168 := ⟨128 * q.val + l.val, by have := q.isLt; have := l.isLt; omega⟩

/-- The five inputs as plain tables over the 6144 rows and 7168 columns. -/
structure Inputs where
  /-- the activations -/
  x : Fin 6144 → Fin 2176 → EReal
  /-- the weights -/
  w : Fin 2176 → Fin 7168 → EReal
  /-- one scale for each row -/
  xs : Fin 6144 → EReal
  /-- one scale for each column -/
  ws : Fin 7168 → EReal
  /-- the bias -/
  b : Fin 7168 → EReal

/-- The activation at row `r` and column `c`. -/
def Inputs.act (I : Inputs) (r : Fin 6144) (c : Fin 7168) : EReal :=
  gelu (dense (I.x r) (fun k => I.w k c) (I.xs r) (I.ws c) (I.b c))

/-- Group `q` of row `r`. -/
def Inputs.grp (I : Inputs) (r : Fin 6144) (q : Fin 56) : Fin 128 → EReal := fun l => I.act r (gcol q l)

/-- The scale of group `q` of row `r`. -/
def Inputs.scaleOf (I : Inputs) (r : Fin 6144) (q : Fin 56) : EReal := scale (amax (I.grp r q))

/-- The code at row `r` and column `c`. -/
def Inputs.codeOf (I : Inputs) (r : Fin 6144) (c : Fin 7168) : EReal :=
  code (I.grp r ⟨c.val / 128, by have := c.isLt; omega⟩) ⟨c.val % 128, Nat.mod_lt _ (by decide)⟩

/-- Row `s` of batch `p`, among all rows. -/
def rowOf (p : Fin 6) (s : Fin 1024) : Fin 6144 := ⟨p.val * 1024 + s.val, by have := p.isLt; have := s.isLt; omega⟩
/-- The batch of a row. -/
def batch (r : Fin 6144) : Fin 6 := ⟨r.val / 1024, by have := r.isLt; omega⟩
/-- A row's place in its batch. -/
def place (r : Fin 6144) : Fin 1024 := ⟨r.val % 1024, Nat.mod_lt _ (by decide)⟩

theorem row_split (r : Fin 6144) : r.val = (batch r).val * 1024 + (place r).val := by
  show r.val = r.val / 1024 * 1024 + r.val % 1024
  omega

/-- The five argument arrays as tables. -/
def Inputs.ofArgs (a0 : (⟨3, ![6, 1024, 2176]⟩ : Shape).Idx → EReal) (a1 : (⟨3, ![6, 1024, 1]⟩ : Shape).Idx → EReal)
    (a2 : (⟨2, ![2176, 7168]⟩ : Shape).Idx → EReal) (a3 a4 : (⟨1, ![7168]⟩ : Shape).Idx → EReal) : Inputs where
  x r k := a0 (ix3 (batch r) (place r) k)
  w k n := a2 (ix2 k n)
  xs r := a1 (ix3 (batch r) (place r) (0 : Fin 1))
  ws n := a3 (ix1 n)
  b n := a4 (ix1 n)

/-- The array of codes both programs return. -/
def Inputs.codeArr (I : Inputs) : (⟨3, ![6, 1024, 7168]⟩ : Shape).Idx → EReal := fun i => I.codeOf (rowOf (i 0) (i 1)) (i 2)
/-- The array of scales both programs return. -/
def Inputs.scaleArr (I : Inputs) : (⟨3, ![6, 1024, 56]⟩ : Shape).Idx → EReal := fun i => I.scaleOf (rowOf (i 0) (i 1)) (i 2)

end GeluQuant

end
-- ==== Proof.KernelArray.lean ====
/- The kernel's two output arrays after its grid has run: at every index the code, or the scale, that the inputs as the
   region finds them determine. Each grid point writes its own block back, and the blocks tile the arrays. -/
module

public import proofs.«01_k».proof.Proof.KernelBlock
public import proofs.«01_k».proof.Proof.Spec
public import proofs.«01_k».proof.Proof.Gen.KernelIdeal.Frame
public import Idealize.ShloMosaic.Lib.Pipeline.Value

@[expose] public section

noncomputable section

namespace GeluQuant.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The inputs as the region finds them. -/
def inputs (c : Dev nD) : Inputs where
  x r k := (V m c main_v0 : Vec Ideal S6144x2176 .fp8e4m3) (ix2 r k)
  w k n := (V m c main_arg2 : Vec Ideal S2176x7168 .fp8e4m3) (ix2 k n)
  xs r := (V m c main_v1 : Vec Ideal S6144x1 .f32) (ix2 r (0 : Fin 1))
  ws n := (V m c main_v2 : Vec Ideal S1x7168 .f32) (ix2 (0 : Fin 1) n)
  b n := (V m c main_v3 : Vec Ideal S1x7168 .bf16) (ix2 (0 : Fin 1) n)

/-! ### Where a grid point's blocks lie -/

/-- The row block of grid point `t`. -/
abbrev rb (t : Fin cfg0.N) : ℕ := t.val % 12
/-- The column block of grid point `t`. -/
abbrev cb (t : Fin cfg0.N) : ℕ := t.val / 12

theorem tlt (t : Fin cfg0.N) : t.val < 84 := t.isLt

theorem idx0 : ∀ t : Fin cfg0.N, win0_0.index t (0 : Fin 2) = rb t ∧ win0_0.index t (1 : Fin 2) = 0 :=
  (by decide +kernel : ∀ t : Fin grid0.N, _)
theorem idx1 : ∀ t : Fin cfg0.N, win0_1.index t (0 : Fin 2) = rb t ∧ win0_1.index t (1 : Fin 2) = 0 :=
  (by decide +kernel : ∀ t : Fin grid0.N, _)
theorem idx2 : ∀ t : Fin cfg0.N, win0_2.index t (0 : Fin 2) = 0 ∧ win0_2.index t (1 : Fin 2) = cb t :=
  (by decide +kernel : ∀ t : Fin grid0.N, _)
theorem idx3 : ∀ t : Fin cfg0.N, win0_3.index t (0 : Fin 2) = 0 ∧ win0_3.index t (1 : Fin 2) = cb t :=
  (by decide +kernel : ∀ t : Fin grid0.N, _)
theorem idx4 : ∀ t : Fin cfg0.N, win0_4.index t (0 : Fin 2) = 0 ∧ win0_4.index t (1 : Fin 2) = cb t :=
  (by decide +kernel : ∀ t : Fin grid0.N, _)
theorem idx5 : ∀ t : Fin cfg0.N, win0_5.index t (0 : Fin 2) = rb t ∧ win0_5.index t (1 : Fin 2) = cb t :=
  (by decide +kernel : ∀ t : Fin grid0.N, _)
theorem idx6 : ∀ t : Fin cfg0.N, win0_6.index t (0 : Fin 3) = cb t ∧ win0_6.index t (1 : Fin 3) = rb t ∧ win0_6.index t (2 : Fin 3) = 0 :=
  (by decide +kernel : ∀ t : Fin grid0.N, _)

/-- Row `p` of grid point `t`'s row block. -/
def row (t : Fin cfg0.N) (p : Fin 512) : Fin 6144 := ⟨512 * rb t + p.val, by have := p.isLt; have := tlt t; unfold rb; omega⟩
/-- Column `n` of grid point `t`'s column block. -/
def cln (t : Fin cfg0.N) (n : Fin 1024) : Fin 7168 := ⟨1024 * cb t + n.val, by have := n.isLt; have := tlt t; unfold cb; omega⟩

theorem emb0 (t : Fin cfg0.N) (p : Fin 512) (k : Fin 2176) :
    ((cfg0.win 0).blk t).view.emb (ix2 p k) = (ix2 (row t p) k : S6144x2176.Idx) := by
  obtain ⟨e0, e1⟩ := idx0 t
  funext a; apply Fin.ext
  match a with
  | ⟨0, _⟩ => show win0_0.index t (0 : Fin 2) * 512 + 1 * p.val = 512 * rb t + p.val; omega
  | ⟨1, _⟩ => show win0_0.index t (1 : Fin 2) * 2176 + 1 * k.val = k.val; omega

theorem emb1 (t : Fin cfg0.N) (p : Fin 512) :
    ((cfg0.win 1).blk t).view.emb (ix2 p (0 : Fin 1)) = (ix2 (row t p) (0 : Fin 1) : S6144x1.Idx) := by
  obtain ⟨e0, e1⟩ := idx1 t
  funext a; apply Fin.ext
  match a with
  | ⟨0, _⟩ => show win0_1.index t (0 : Fin 2) * 512 + 1 * p.val = 512 * rb t + p.val; omega
  | ⟨1, _⟩ => show win0_1.index t (1 : Fin 2) * 1 + 1 * 0 = 0; omega

theorem emb2 (t : Fin cfg0.N) (k : Fin 2176) (n : Fin 1024) :
    ((cfg0.win 2).blk t).view.emb (ix2 k n) = (ix2 k (cln t n) : S2176x7168.Idx) := by
  obtain ⟨e0, e1⟩ := idx2 t
  funext a; apply Fin.ext
  match a with
  | ⟨0, _⟩ => show win0_2.index t (0 : Fin 2) * 2176 + 1 * k.val = k.val; omega
  | ⟨1, _⟩ => show win0_2.index t (1 : Fin 2) * 1024 + 1 * n.val = 1024 * cb t + n.val; omega

theorem emb3 (t : Fin cfg0.N) (n : Fin 1024) :
    ((cfg0.win 3).blk t).view.emb (ix2 (0 : Fin 1) n) = (ix2 (0 : Fin 1) (cln t n) : S1x7168.Idx) := by
  obtain ⟨e0, e1⟩ := idx3 t
  funext a; apply Fin.ext
  match a with
  | ⟨0, _⟩ => show win0_3.index t (0 : Fin 2) * 1 + 1 * 0 = 0; omega
  | ⟨1, _⟩ => show win0_3.index t (1 : Fin 2) * 1024 + 1 * n.val = 1024 * cb t + n.val; omega

theorem emb4 (t : Fin cfg0.N) (n : Fin 1024) :
    ((cfg0.win 4).blk t).view.emb (ix2 (0 : Fin 1) n) = (ix2 (0 : Fin 1) (cln t n) : S1x7168.Idx) := by
  obtain ⟨e0, e1⟩ := idx4 t
  funext a; apply Fin.ext
  match a with
  | ⟨0, _⟩ => show win0_4.index t (0 : Fin 2) * 1 + 1 * 0 = 0; omega
  | ⟨1, _⟩ => show win0_4.index t (1 : Fin 2) * 1024 + 1 * n.val = 1024 * cb t + n.val; omega

theorem emb5 (t : Fin cfg0.N) (p : Fin 512) (n : Fin 1024) :
    ((cfg0.win 5).blk t).view.emb (ix2 p n) = (ix2 (row t p) (cln t n) : S6144x7168.Idx) := by
  obtain ⟨e0, e1⟩ := idx5 t
  funext a; apply Fin.ext
  match a with
  | ⟨0, _⟩ => show win0_5.index t (0 : Fin 2) * 512 + 1 * p.val = 512 * rb t + p.val; omega
  | ⟨1, _⟩ => show win0_5.index t (1 : Fin 2) * 1024 + 1 * n.val = 1024 * cb t + n.val; omega

/-- The column block as an index of the scale array's first axis. -/
def cbF (t : Fin cfg0.N) : Fin 7 := ⟨cb t, by have := tlt t; unfold cb; omega⟩

theorem emb6 (t : Fin cfg0.N) (u : Fin 1) (p : Fin 512) (k : Fin 8) :
    ((cfg0.win 6).blk t).view.emb (ix3 u p k) = (ix3 (cbF t) (row t p) k : S7x6144x8.Idx) := by
  obtain ⟨e0, e1, e2⟩ := idx6 t
  funext a; apply Fin.ext
  match a with
  | ⟨0, _⟩ => show win0_6.index t (0 : Fin 3) * 1 + 1 * u.val = cb t; omega
  | ⟨1, _⟩ => show win0_6.index t (1 : Fin 3) * 512 + 1 * p.val = 512 * rb t + p.val; omega
  | ⟨2, _⟩ => show win0_6.index t (2 : Fin 3) * 8 + 1 * k.val = k.val; omega

/-! ### A grid point's activations are those of its rows and columns -/

/-- The activations a grid point computes from its input blocks. -/
theorem act_eq (c : Dev nD) (t : Fin cfg0.N) (p : Fin 512) (n : Fin 1024) :
    k0_pay4 (iblk m c 0 t) (iblk m c 2 t) (iblk m c 1 t) (iblk m c 3 t) (iblk m c 4 t) (ix2 p n)
      = (inputs m c).act (row t p) (cln t n) := by
  refine (pay4_apply (iblk m c 0 t) (iblk m c 1 t) (iblk m c 2 t) (iblk m c 3 t) (iblk m c 4 t) p n).trans ?_
  have h0 : (fun k : Fin 2176 => (iblk m c 0 t : Vec Ideal S512x2176 .fp8e4m3) (ix2 p k)) = (inputs m c).x (row t p) :=
    funext fun k => congrArg (V m c main_v0) (emb0 t p k)
  have h1 : (iblk m c 1 t : Vec Ideal S512x1 .f32) (ix2 p (0 : Fin 1)) = (inputs m c).xs (row t p) :=
    congrArg (V m c main_v1) (emb1 t p)
  have h2 : (fun k : Fin 2176 => (iblk m c 2 t : Vec Ideal S2176x1024 .fp8e4m3) (ix2 k n)) = fun k => (inputs m c).w k (cln t n) :=
    funext fun k => congrArg (V m c main_arg2) (emb2 t k n)
  have h3 : (iblk m c 3 t : Vec Ideal S1x1024 .f32) (ix2 (0 : Fin 1) n) = (inputs m c).ws (cln t n) :=
    congrArg (V m c main_v2) (emb3 t n)
  have h4 : (iblk m c 4 t : Vec Ideal S1x1024 .bf16) (ix2 (0 : Fin 1) n) = (inputs m c).b (cln t n) :=
    congrArg (V m c main_v3) (emb4 t n)
  exact congrArg gelu (congr (congr (congr (congr (congrArg dense h0) h2) h1) h3) h4)

/-- Group `k` of a grid point's block, as a group of the whole array. -/
def gof (t : Fin cfg0.N) (k : Fin 8) : Fin 56 := ⟨8 * cb t + k.val, by have := k.isLt; have := tlt t; unfold cb; omega⟩

theorem cln_col (t : Fin cfg0.N) (k : Fin 8) (l : Fin 128) : cln t (col k l) = gcol (gof t k) l := by
  apply Fin.ext
  show 1024 * cb t + (128 * k.val + l.val) = 128 * (8 * cb t + k.val) + l.val
  omega

theorem grp_eq (c : Dev nD) (t : Fin cfg0.N) (p : Fin 512) (k : Fin 8) :
    grp (k0_pay4 (iblk m c 0 t) (iblk m c 2 t) (iblk m c 1 t) (iblk m c 3 t) (iblk m c 4 t)) p k
      = (inputs m c).grp (row t p) (gof t k) :=
  funext fun l => (act_eq m c t p (col k l)).trans (congrArg ((inputs m c).act (row t p)) (cln_col t k l))

/-! ### The codes -/

/-- The whole array of codes. -/
def codeArr (c : Dev nD) : Vec Ideal S6144x7168 .fp8e4m3 := fun i => (inputs m c).codeOf (i 0) (i 1)

theorem flushed5 (c : Dev nD) (t : Fin cfg0.N) :
    (dats m 0 c).flushed 5 t = ((cfg0.win 5).blk t).view.read (Elt Ideal) (codeArr m c) := by
  show (cfg0.win 5).cut (grid0.coords t) ((dats m 0 c).after 5 t) = _
  rw [after0_5]
  funext y
  show out0_5 (iblk m c 0 t) (iblk m c 1 t) (iblk m c 2 t) (iblk m c 3 t) (iblk m c 4 t) y
    = codeArr m c (((cfg0.win 5).blk t).view.emb y)
  obtain ⟨p, n, rfl⟩ : ∃ (p : Fin 512) (n : Fin 1024), y = ix2 p n := ⟨y 0, y 1, eq_ix2 y⟩
  refine (out5_apply (iblk m c 0 t) (iblk m c 1 t) (iblk m c 2 t) (iblk m c 3 t) (iblk m c 4 t) (ix2 p n)).trans ?_
  refine Eq.trans ?_ (congrArg (codeArr m c) (emb5 t p n)).symm
  have hq : gof t ⟨n.val / 128, by have := n.isLt; omega⟩ = ⟨(cln t n).val / 128, by have := (cln t n).isLt; omega⟩ :=
    Fin.ext (by show 8 * cb t + n.val / 128 = (1024 * cb t + n.val) / 128; omega)
  have hl : (⟨n.val % 128, Nat.mod_lt _ (by decide)⟩ : Fin 128) = ⟨(cln t n).val % 128, Nat.mod_lt _ (by decide)⟩ :=
    Fin.ext (by show n.val % 128 = (1024 * cb t + n.val) % 128; omega)
  exact congr (congrArg code ((grp_eq m c t p _).trans (congrArg ((inputs m c).grp (row t p)) hq))) hl

/-- The grid point whose block holds row `r` and column `n`. -/
def pt (r n : ℕ) (hr : r < 6144) (hn : n < 7168) : Fin cfg0.N := ⟨12 * (n / 1024) + r / 512, by show _ < 84; omega⟩

theorem covered5 (i : S6144x7168.Idx) :
    ∃ t : Fin cfg0.N, (cfg0.win 5).flush t = true ∧ i ∈ ((cfg0.win 5).blk t).view.set := by
  have h0 : (i 0).val < 6144 := (i 0).isLt
  have h1 : (i 1).val < 7168 := (i 1).isLt
  refine ⟨pt (i 0).val (i 1).val h0 h1, flush0_5 _, ?_⟩
  have h := ((cfg0.win 5).blk (pt (i 0).val (i 1).val h0 h1)).view.emb_mem_set
    (ix2 (⟨(i 0).val % 512, Nat.mod_lt _ (by decide)⟩ : Fin 512) (⟨(i 1).val % 1024, Nat.mod_lt _ (by decide)⟩ : Fin 1024))
  have e : (ix2 (row (pt (i 0).val (i 1).val h0 h1) ⟨(i 0).val % 512, Nat.mod_lt _ (by decide)⟩)
      (cln (pt (i 0).val (i 1).val h0 h1) ⟨(i 1).val % 1024, Nat.mod_lt _ (by decide)⟩) : S6144x7168.Idx) = i := by
    refine (congr (congrArg ix2 (Fin.ext ?_)) (Fin.ext ?_)).trans (eq_ix2 i).symm
    · show 512 * ((12 * ((i 1).val / 1024) + (i 0).val / 512) % 12) + (i 0).val % 512 = (i 0).val
      omega
    · show 1024 * ((12 * ((i 1).val / 1024) + (i 0).val / 512) / 12) + (i 1).val % 1024 = (i 1).val
      omega
  exact (congrArg (· ∈ _) ((emb5 _ _ _).trans e)).mp h

/-- The array of codes after the run. -/
theorem final5 (c : Dev nD) : (dats m 0 c).arrAt 5 cfg0.N = codeArr m c :=
  (dats m 0 c).arrAt_eq_of_cover 5 (codeArr m c) (fun t _ => flushed5 m c t) covered5

/-! ### The scales -/

/-- Group `k` of column block `j`. -/
def gjk (j : Fin 7) (k : Fin 8) : Fin 56 := ⟨8 * j.val + k.val, by have := j.isLt; have := k.isLt; omega⟩

/-- The whole array of scales, one plane for each column block. -/
def scaleArr (c : Dev nD) : Vec Ideal S7x6144x8 .f32 := fun i => (inputs m c).scaleOf (i 1) (gjk (i 0) (i 2))

theorem flushed6 (c : Dev nD) (t : Fin cfg0.N) :
    (dats m 0 c).flushed 6 t = ((cfg0.win 6).blk t).view.read (Elt Ideal) (scaleArr m c) := by
  show (cfg0.win 6).cut (grid0.coords t) ((dats m 0 c).after 6 t) = _
  rw [after0_6]
  funext y
  show out0_6 (iblk m c 0 t) (iblk m c 1 t) (iblk m c 2 t) (iblk m c 3 t) (iblk m c 4 t) y
    = scaleArr m c (((cfg0.win 6).blk t).view.emb y)
  obtain ⟨u, p, k, rfl⟩ : ∃ (u : Fin 1) (p : Fin 512) (k : Fin 8), y = ix3 u p k := ⟨y 0, y 1, y 2, eq_ix3 y⟩
  refine (out6_apply (iblk m c 0 t) (iblk m c 1 t) (iblk m c 2 t) (iblk m c 3 t) (iblk m c 4 t) u p k).trans ?_
  refine Eq.trans ?_ (congrArg (scaleArr m c) (emb6 t u p k)).symm
  exact congrArg (fun v => scale (amax v)) (grp_eq m c t p k)

theorem covered6 (i : S7x6144x8.Idx) :
    ∃ t : Fin cfg0.N, (cfg0.win 6).flush t = true ∧ i ∈ ((cfg0.win 6).blk t).view.set := by
  have h0 : (i 0).val < 7 := (i 0).isLt
  have h1 : (i 1).val < 6144 := (i 1).isLt
  have h2 : 1024 * (i 0).val < 7168 := by omega
  refine ⟨pt (i 1).val (1024 * (i 0).val) h1 h2, flush0_6 _, ?_⟩
  have h := ((cfg0.win 6).blk (pt (i 1).val (1024 * (i 0).val) h1 h2)).view.emb_mem_set
    (ix3 (0 : Fin 1) (⟨(i 1).val % 512, Nat.mod_lt _ (by decide)⟩ : Fin 512) (⟨(i 2).val, (i 2).isLt⟩ : Fin 8))
  have e : (ix3 (cbF (pt (i 1).val (1024 * (i 0).val) h1 h2)) (row (pt (i 1).val (1024 * (i 0).val) h1 h2)
      ⟨(i 1).val % 512, Nat.mod_lt _ (by decide)⟩) (⟨(i 2).val, (i 2).isLt⟩ : Fin 8) : S7x6144x8.Idx) = i := by
    refine (congr (congr (congrArg ix3 (Fin.ext ?_)) (Fin.ext ?_)) rfl).trans (eq_ix3 i).symm
    · show (12 * (1024 * (i 0).val / 1024) + (i 1).val / 512) / 12 = (i 0).val
      omega
    · show 512 * ((12 * (1024 * (i 0).val / 1024) + (i 1).val / 512) % 12) + (i 1).val % 512 = (i 1).val
      omega
  exact (congrArg (· ∈ _) ((emb6 _ _ _ _).trans e)).mp h

/-- The array of scales after the run. -/
theorem final6 (c : Dev nD) : (dats m 0 c).arrAt 6 cfg0.N = scaleArr m c :=
  (dats m 0 c).arrAt_eq_of_cover 6 (scaleArr m c) (fun t _ => flushed6 m c t) covered6

end GeluQuant.Kernel

end
-- ==== Proof.KernelValue.lean ====
/- The kernel's two results are the codes and scales of `Spec` on the argument arrays: its host reshapes before the region
   give the tables, those after it lay the two output arrays out as returned. -/
module

public import proofs.«01_k».proof.Proof.Layout
public import proofs.«01_k».proof.Proof.KernelArray
public import proofs.«01_k».proof.Proof.Gen.KernelIdeal.Run

@[expose] public section

noncomputable section

namespace GeluQuant.Kernel

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ### The host operations before the region -/

theorem head0 (V0 : Valuation τ sig (Elt Ideal)) :
    after (List.flatten [hostOps0]) V0 (Proc.devRef .tc main_v0) = shapeCast _ (V0 (Proc.devRef .tc main_arg0)) shapeCasts_S6x1024x2176_S6144x2176 := by
  simp only [hostOps0, List.flatten_cons, List.flatten_nil, List.append_nil, List.cons_append, List.nil_append]
  after_results <;> rfl
theorem head1 (V0 : Valuation τ sig (Elt Ideal)) :
    after (List.flatten [hostOps0]) V0 (Proc.devRef .tc main_v1) = shapeCast _ (V0 (Proc.devRef .tc main_arg1)) shapeCasts_S6x1024x1_S6144x1 := by
  simp only [hostOps0, List.flatten_cons, List.flatten_nil, List.append_nil, List.cons_append, List.nil_append]
  after_results <;> rfl
theorem head2 (V0 : Valuation τ sig (Elt Ideal)) :
    after (List.flatten [hostOps0]) V0 (Proc.devRef .tc main_v2) = shapeCast _ (V0 (Proc.devRef .tc main_arg3)) shapeCasts_S7168_S1x7168 := by
  simp only [hostOps0, List.flatten_cons, List.flatten_nil, List.append_nil, List.cons_append, List.nil_append]
  after_results <;> rfl
theorem head3 (V0 : Valuation τ sig (Elt Ideal)) :
    after (List.flatten [hostOps0]) V0 (Proc.devRef .tc main_v3) = shapeCast _ (V0 (Proc.devRef .tc main_arg4)) shapeCasts_S7168_S1x7168 := by
  simp only [hostOps0, List.flatten_cons, List.flatten_nil, List.append_nil, List.cons_append, List.nil_append]
  after_results <;> rfl

/-- The argument arrays as launched, as tables. -/
abbrev args (c : Dev nD) : Inputs :=
  Inputs.ofArgs (m ((c : Thread nD τ).loc main_arg0)) (m ((c : Thread nD τ).loc main_arg1)) (m ((c : Thread nD τ).loc main_arg2))
    (m ((c : Thread nD τ).loc main_arg3)) (m ((c : Thread nD τ).loc main_arg4))

theorem inputs_eq (c : Dev nD) : inputs m c = args m c := by
  have hx : (inputs m c).x = (args m c).x := funext fun r => funext fun k =>
    (congrFun (head0 (fun b => m (c, b))) (ix2 r k)).trans
      (shapeCast_abd_nd_apply _ shapeCasts_S6x1024x2176_S6144x2176 (batch r) (place r) k r (row_split r))
  have hw : (inputs m c).w = (args m c).w := funext fun k => funext fun n => congrFun (V_main_arg2 m c) (ix2 k n)
  have hxs : (inputs m c).xs = (args m c).xs := funext fun r =>
    (congrFun (head1 (fun b => m (c, b))) (ix2 r (0 : Fin 1))).trans
      (shapeCast_abd_nd_apply _ shapeCasts_S6x1024x1_S6144x1 (batch r) (place r) 0 r (row_split r))
  have hws : (inputs m c).ws = (args m c).ws := funext fun n =>
    (congrFun (head2 (fun b => m (c, b))) (ix2 (0 : Fin 1) n)).trans (shapeCast_a_1a_apply _ shapeCasts_S7168_S1x7168 0 n)
  have hb : (inputs m c).b = (args m c).b := funext fun n =>
    (congrFun (head3 (fun b => m (c, b))) (ix2 (0 : Fin 1) n)).trans (shapeCast_a_1a_apply _ shapeCasts_S7168_S1x7168 0 n)
  show Inputs.mk (inputs m c).x (inputs m c).w (inputs m c).xs (inputs m c).ws (inputs m c).b = Inputs.mk _ _ _ _ _
  rw [hx, hw, hxs, hws, hb]
  rfl

/-! ### The host operations after the region -/

theorem codes_layout (c : Dev nD) :
    shapeCast S6x1024x7168 (codeArr m c) shapeCasts_S6144x7168_S6x1024x7168 = (inputs m c).codeArr := by
  funext i
  obtain ⟨p, s, n, rfl⟩ : ∃ (p : Fin 6) (s : Fin 1024) (n : Fin 7168), i = ix3 p s n := ⟨i 0, i 1, i 2, eq_ix3 i⟩
  exact shapeCast_nd_abd_apply (codeArr m c) shapeCasts_S6144x7168_S6x1024x7168 p s n (rowOf p s) rfl

theorem scales_layout (c : Dev nD) :
    shapeCast S6x1024x56 (transpose S6144x7x8 [1, 0, 2] (scaleArr m c) transposes_S7x6144x8_S6144x7x8_1_0_2) shapeCasts_S6144x7x8_S6x1024x56
      = (inputs m c).scaleArr := by
  funext i
  obtain ⟨p, s, q, rfl⟩ : ∃ (p : Fin 6) (s : Fin 1024) (q : Fin 56), i = ix3 p s q := ⟨i 0, i 1, i 2, eq_ix3 i⟩
  have hq := q.isLt
  let j : Fin 7 := ⟨q.val / 8, by omega⟩
  let k : Fin 8 := ⟨q.val % 8, Nat.mod_lt _ (by decide)⟩
  refine (shapeCast_nef_abd_apply rfl _ shapeCasts_S6144x7x8_S6x1024x56 p s q (rowOf p s) j k rfl
    (by show q.val = q.val / 8 * 8 + q.val % 8; omega)).trans ?_
  refine (transpose_apply [1, 0, 2] (scaleArr m c) transposes_S7x6144x8_S6144x7x8_1_0_2 (ix3 (rowOf p s) j k) (ix3 j (rowOf p s) k)
    (fun b => by match b with | ⟨0, _⟩ => rfl | ⟨1, _⟩ => rfl | ⟨2, _⟩ => rfl)).trans ?_
  exact congrArg ((inputs m c).scaleOf (rowOf p s)) (Fin.ext (by show 8 * (q.val / 8) + q.val % 8 = q.val; omega))

/-- The kernel's first result. -/
theorem result0 (c : Dev nD) :
    shapeCast S6x1024x7168 (Cert.KernelIdeal.Value.reg_main_v4_0 m c) shapeCasts_S6144x7168_S6x1024x7168 = (args m c).codeArr := by
  unfold Cert.KernelIdeal.Value.reg_main_v4_0
  rw [final5, ← inputs_eq]
  exact codes_layout m c

/-- The kernel's second result. -/
theorem result1 (c : Dev nD) :
    shapeCast S6x1024x56 (transpose S6144x7x8 [1, 0, 2] (Cert.KernelIdeal.Value.reg_main_v4_1 m c) transposes_S7x6144x8_S6144x7x8_1_0_2) shapeCasts_S6144x7x8_S6x1024x56
      = (args m c).scaleArr := by
  unfold Cert.KernelIdeal.Value.reg_main_v4_1
  rw [final6, ← inputs_eq]
  exact scales_layout m c

end GeluQuant.Kernel

end
-- ==== Proof.RefRun.lean ====
/- The reference's run: the gridless region has one grid point and every window's block is its whole array, so each
   output array ends at the body's payload of the argument arrays (`G5` the codes, `G6` the scales), the arguments
   unchanged (`run`). The text is the generated value leg's without its index-by-index section. -/
module

public import proofs.«01_k».proof.Proof.Gen.ReferenceIdeal.Frame
public import Idealize.ShloMosaic.Lib.Pipeline.Value

@[expose] public section

noncomputable section

namespace GeluQuant.RefRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S6x1024x2176.Idx) : ((cfg0.win 0).blk t).view.emb j = j := by
  obtain ⟨e0, e1, e2⟩ := idx_zero0 t
  funext a; apply Fin.ext
  match a with
  | ⟨0, _⟩ => show win0_0.index t (0 : Fin 3) * 6 + 1 * (j 0).val = (j 0).val; omega
  | ⟨1, _⟩ => show win0_0.index t (1 : Fin 3) * 1024 + 1 * (j 1).val = (j 1).val; omega
  | ⟨2, _⟩ => show win0_0.index t (2 : Fin 3) * 2176 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S6x1024x1.Idx) : ((cfg0.win 1).blk t).view.emb j = j := by
  obtain ⟨e0, e1, e2⟩ := idx_zero1 t
  funext a; apply Fin.ext
  match a with
  | ⟨0, _⟩ => show win0_1.index t (0 : Fin 3) * 6 + 1 * (j 0).val = (j 0).val; omega
  | ⟨1, _⟩ => show win0_1.index t (1 : Fin 3) * 1024 + 1 * (j 1).val = (j 1).val; omega
  | ⟨2, _⟩ => show win0_1.index t (2 : Fin 3) * 1 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S2176x7168.Idx) : ((cfg0.win 2).blk t).view.emb j = j := by
  obtain ⟨e0, e1⟩ := idx_zero2 t
  funext a; apply Fin.ext
  match a with
  | ⟨0, _⟩ => show win0_2.index t (0 : Fin 2) * 2176 + 1 * (j 0).val = (j 0).val; omega
  | ⟨1, _⟩ => show win0_2.index t (1 : Fin 2) * 7168 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S7168.Idx) : ((cfg0.win 3).blk t).view.emb j = j := by
  have e0 := idx_zero3 t
  funext a; apply Fin.ext
  match a with
  | ⟨0, _⟩ => show win0_3.index t (0 : Fin 1) * 7168 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S7168.Idx) : ((cfg0.win 4).blk t).view.emb j = j := by
  have e0 := idx_zero4 t
  funext a; apply Fin.ext
  match a with
  | ⟨0, _⟩ => show win0_4.index t (0 : Fin 1) * 7168 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S6x1024x7168.Idx) : ((cfg0.win 5).blk t).view.emb j = j := by
  obtain ⟨e0, e1, e2⟩ := idx_zero5 t
  funext a; apply Fin.ext
  match a with
  | ⟨0, _⟩ => show win0_5.index t (0 : Fin 3) * 6 + 1 * (j 0).val = (j 0).val; omega
  | ⟨1, _⟩ => show win0_5.index t (1 : Fin 3) * 1024 + 1 * (j 1).val = (j 1).val; omega
  | ⟨2, _⟩ => show win0_5.index t (2 : Fin 3) * 7168 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S6x1024x56.Idx) : ((cfg0.win 6).blk t).view.emb j = j := by
  obtain ⟨e0, e1, e2⟩ := idx_zero6 t
  funext a; apply Fin.ext
  match a with
  | ⟨0, _⟩ => show win0_6.index t (0 : Fin 3) * 6 + 1 * (j 0).val = (j 0).val; omega
  | ⟨1, _⟩ => show win0_6.index t (1 : Fin 3) * 1024 + 1 * (j 1).val = (j 1).val; omega
  | ⟨2, _⟩ => show win0_6.index t (2 : Fin 3) * 56 + 1 * (j 2).val = (j 2).val; omega

/-! ### Output window 5: the array after the run -/

/-- What the window's array ends holding: `out0_5` applied to the argument arrays in place of the input blocks (a value that the
    frame states apart, `kK_payN a…`, keeps its loads inside its own definition). -/
abbrev G5 (a0 : Vec F S6x1024x2176 .fp8e4m3) (a1 : Vec F S6x1024x1 .f32) (a2 : Vec F S2176x7168 .fp8e4m3) (a3 : Vec F S7168 .f32) (a4 : Vec F S7168 .bf16) : Vec F S6x1024x7168 .fp8e4m3 :=
  k0_pay2 (k0_pay4 a0 a2 a1 a3 a4) (k0_pay9 a0 a1 a2 a3 a4) (k0_pay10 a0 a1 a2 a3 a4) (k0_pay11 a0 a1 a2 a3 a4)

/-- A load of the whole of a block reads the block, and the one store through the whole rectangle leaves its payload. -/
theorem out5_eq (a0 : Vec F S6x1024x2176 .fp8e4m3) (a1 : Vec F S6x1024x1 .f32) (a2 : Vec F S2176x7168 .fp8e4m3) (a3 : Vec F S7168 .f32) (a4 : Vec F S7168 .bf16) : out0_5 (F := F) a0 a1 a2 a3 a4 = G5 a0 a1 a2 a3 a4 := by
  unfold out0_5
  rw [View.canon_unit_zero hz5, View.ld_unit_zero (S := S6x1024x2176) hz0 _ a0, View.ld_unit_zero (S := S2176x7168) hz2 _ a2, View.ld_unit_zero (S := S6x1024x1) hz1 _ a1, View.ld_unit_zero (S := S7168) hz3 _ a3, View.ld_unit_zero (S := S7168) hz4 _ a4]

/-- Cutting the point's block out of `X` and reading `X` through the block's view give the same. -/
theorem cut5_eq (t : Fin cfg0.N) (X : Vec F S6x1024x7168 .fp8e4m3) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3) (V m c main_arg4)) := by
  show (cfg0.win 5).cut (grid0.coords t) ((dats m 0 c).after 5 t) = _
  rw [after0_5, out5_eq, iblk0_eq, iblk1_eq, iblk2_eq, iblk3_eq, iblk4_eq]
  exact cut5_eq t _

/-- Every index of the array is in the point's block. -/
theorem covered5 (i : S6x1024x7168.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (G5 (V m c main_arg0) (V m c main_arg1) (V m c main_arg2) (V m c main_arg3) (V m c main_arg4)) (fun t _ => flushed5_eq m c t) covered5).trans (by rw [V_main_arg0, V_main_arg1, V_main_arg2, V_main_arg3, V_main_arg4])

/-! ### Output window 6: the array after the run -/

/-- What the window's array ends holding: `out0_6` applied to the argument arrays in place of the input blocks (a value that the
    frame states apart, `kK_payN a…`, keeps its loads inside its own definition). -/
abbrev G6 (a0 : Vec F S6x1024x2176 .fp8e4m3) (a1 : Vec F S6x1024x1 .f32) (a2 : Vec F S2176x7168 .fp8e4m3) (a3 : Vec F S7168 .f32) (a4 : Vec F S7168 .bf16) : Vec F S6x1024x56 .f32 :=
  k0_pay3 (k0_pay9 a0 a1 a2 a3 a4) (k0_pay10 a0 a1 a2 a3 a4) (k0_pay11 a0 a1 a2 a3 a4)

/-- The one store through the whole rectangle leaves its payload. -/
theorem out6_eq (a0 : Vec F S6x1024x2176 .fp8e4m3) (a1 : Vec F S6x1024x1 .f32) (a2 : Vec F S2176x7168 .fp8e4m3) (a3 : Vec F S7168 .f32) (a4 : Vec F S7168 .bf16) : out0_6 (F := F) a0 a1 a2 a3 a4 = G6 a0 a1 a2 a3 a4 := by
  unfold out0_6
  rw [View.canon_unit_zero hz6]

/-- Cutting the point's block out of `X` and reading `X` through the block's view give the same. -/
theorem cut6_eq (t : Fin cfg0.N) (X : Vec F S6x1024x56 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4)) := by
  show (cfg0.win 6).cut (grid0.coords t) ((dats m 0 c).after 6 t) = _
  rw [after0_6, out6_eq, iblk0_eq, iblk1_eq, iblk2_eq, iblk3_eq, iblk4_eq]
  exact cut6_eq t _

/-- Every index of the array is in the point's block. -/
theorem covered6 (i : S6x1024x56.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 6 (G6 (V m c main_arg0) (V m c main_arg1) (V m c main_arg2) (V m c main_arg3) (V m c main_arg4)) (fun t _ => flushed6_eq m c t) covered6).trans (by rw [V_main_arg0, V_main_arg1, V_main_arg2, V_main_arg3, V_main_arg4])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      kept_main_arg0 m r h c,
      kept_main_arg1 m r h c,
      kept_main_arg2 m r h c,
      kept_main_arg3 m r h c,
      kept_main_arg4 m r h c⟩)
    (run_main m ρ)

end GeluQuant.RefRun

end
-- ==== Proof.RefValue.lean ====
/- The reference's two arrays are the codes and scales of `Spec` on the argument arrays: each of its operations read at an
   index, then the element lemmas (`geluRef_eq`, `codeRef_eq`, `scaleRef_eq`). -/
module

public import proofs.«01_k».proof.Proof.Spec
public import proofs.«01_k».proof.Proof.Layout
public import proofs.«01_k».proof.Proof.RefRun

@[expose] public section

noncomputable section

namespace GeluQuant.Ref

open Cert.ReferenceIdeal Cert.ReferenceIdeal.Gen Idealize.ShloMosaic Idealize.ShloMosaic.ValueIdx Idealize.SL.Sem

/-! ### The tail: group maximum, exponent, codes and scales, from any activations -/

/-- The reduced axis put back into a group's index. -/
theorem lift_group (r : Fin 6144) (q : Fin 56) (l : Fin 128) : reduces_S6144x56x128_S6144x56.lift (ix2 r q) l = ix3 r q l := by
  funext c; apply Fin.ext
  match c with
  | ⟨0, _⟩ => rfl
  | ⟨1, _⟩ => rfl
  | ⟨2, _⟩ => rfl

/-- The largest absolute value of a group. -/
theorem groupMax_apply (g : FVec Ideal S6144x56x128 .f32) (r : Fin 6144) (q : Fin 56) :
    multiReduction .maximumf [2] S6144x56 (absf g) 0xFF800000#32 reduces_S6144x56x128_S6144x56 (.inl rfl) rfl (ix2 r q)
      = amax fun l => g (ix3 r q l) := by
  refine (Ideal.multiReduction_maximumf_single (absf g) 0xFF800000#32 reduces_S6144x56x128_S6144x56 (.inl rfl) rfl (ix2 r q)).trans ?_
  unfold amax
  refine congrArg (fun f => (Finset.univ : Finset (Fin 128)).fold max (Ideal.ofBits .f32 0xFF800000#32) f) (funext fun l => ?_)
  exact congrArg (absf g) (lift_group r q l)

/-- The codes from the activations and the exponents. -/
theorem codes_apply (g : FVec Ideal S6144x56x128 .f32) (z : IVec S6144x56 1) (f o : FVec Ideal S6144x56 .f32)
    (p : Fin 6) (s : Fin 1024) (c : Fin 7168) (q : Fin 56) (l : Fin 128) (hc : c.val = q.val * 128 + l.val) :
    k0_pay2 g z f o (ix3 p s c)
      = g (ix3 (rowOf p s) q l) * Ideal.exp2 (Ideal.ofBits .f32 0x00000000#32 - k0_pay1 z f o (ix2 (rowOf p s) q)) := by
  unfold k0_pay2
  refine (shapeCast_nd_abd_apply _ shapeCasts_S6144x7168_S6x1024x7168 p s c (rowOf p s) rfl).trans ?_
  refine (shapeCast_abd_an_apply rfl _ shapeCasts_S6144x56x128_S6144x7168 (rowOf p s) q l c hc).trans ?_
  refine congrArg (fun e => g (ix3 (rowOf p s) q l) * e) ?_
  refine (broadcastTo_ab1_abd_apply _ broadcasts_S6144x56x1_S6144x56x128 (rowOf p s) q l).trans ?_
  exact shapeCast_ab_ab1_apply _ shapeCasts_S6144x56_S6144x56x1 (rowOf p s) q 0

/-- The scales from the exponents. -/
theorem scales_apply (z : IVec S6144x56 1) (f o : FVec Ideal S6144x56 .f32) (p : Fin 6) (s : Fin 1024) (q : Fin 56) :
    k0_pay3 z f o (ix3 p s q) = Ideal.exp2 (k0_pay1 z f o (ix2 (rowOf p s) q)) := by
  unfold k0_pay3
  exact shapeCast_nd_abd_apply _ shapeCasts_S6144x56_S6x1024x56 p s q (rowOf p s) rfl

/-! ### The activations -/

section Loads
variable {F : FTy → Type} [FloatOps F] (a0 : Vec F S6x1024x2176 .fp8e4m3) (a1 : Vec F S6x1024x1 .f32) (a2 : Vec F S2176x7168 .fp8e4m3)
  (a3 : Vec F S7168 .f32) (a4 : Vec F S7168 .bf16)

/-- The whole loads read their arrays, in the test for a zero maximum. -/
theorem ld9 : k0_pay9 a0 a1 a2 a3 a4 = k0_pay6 a0 a2 a1 a3 a4 := by
  unfold k0_pay9
  rw [View.ld_unit_zero (S := S6x1024x2176) RefRun.hz0 _ a0, View.ld_unit_zero (S := S2176x7168) RefRun.hz2 _ a2,
    View.ld_unit_zero (S := S6x1024x1) RefRun.hz1 _ a1, View.ld_unit_zero (S := S7168) RefRun.hz3 _ a3,
    View.ld_unit_zero (S := S7168) RefRun.hz4 _ a4]

/-- The same in the rounded logarithm. -/
theorem ld10 : k0_pay10 a0 a1 a2 a3 a4 = k0_pay7 a0 a2 a1 a3 a4 := by
  unfold k0_pay10
  rw [View.ld_unit_zero (S := S6x1024x2176) RefRun.hz0 _ a0, View.ld_unit_zero (S := S2176x7168) RefRun.hz2 _ a2,
    View.ld_unit_zero (S := S6x1024x1) RefRun.hz1 _ a1, View.ld_unit_zero (S := S7168) RefRun.hz3 _ a3,
    View.ld_unit_zero (S := S7168) RefRun.hz4 _ a4]
end Loads

variable (a0 : FVec Ideal S6x1024x2176 .fp8e4m3) (a1 : FVec Ideal S6x1024x1 .f32) (a2 : FVec Ideal S2176x7168 .fp8e4m3)
  (a3 : FVec Ideal S7168 .f32) (a4 : FVec Ideal S7168 .bf16)

/-- The product of the reshaped rows and the weights. -/
theorem product_apply (x : FVec Ideal S6144x2176 .fp8e4m3) (w : FVec Ideal S2176x7168 .fp8e4m3) (r : Fin 6144) (c : Fin 7168) :
    matmul dot_S6144x2176_S2176x7168_S6144x7168_1_0_0_1_n_n none x w (constant S6144x7168 .f32 0x00000000#32) (ix2 r c)
      = ∑ k : Fin 2176, x (ix2 r k) * w (ix2 k c) := by
  refine (Ideal.matmul_plain_apply none x w (constant S6144x7168 .f32 0x00000000#32) r c).trans ?_
  exact (congrArg (· + _) ofBits_zero).trans (zero_add _)

theorem act_apply (r : Fin 6144) (q : Fin 56) (l : Fin 128) :
    k0_pay4 (F := Ideal) a0 a2 a1 a3 a4 (ix3 r q l) = (Inputs.ofArgs a0 a1 a2 a3 a4).act r (gcol q l) := by
  unfold k0_pay4
  refine (shapeCast_an_abd_apply rfl _ shapeCasts_S6144x7168_S6144x56x128 r q l (gcol q l)
    (by show 128 * q.val + l.val = q.val * 128 + l.val; omega)).trans ?_
  refine Eq.trans ?_ (geluRef_eq _)
  refine congrArg geluRef (?_ : _ * _ * _ + _ = _)
  unfold dense
  refine congrArg₂ (· + ·) (congrArg₂ (· * ·) (congrArg₂ (· * ·) ((product_apply _ a2 r (gcol q l)).trans ?_) ?_) ?_) ?_
  · exact Finset.sum_congr rfl fun k _ => congrArg (· * a2 (ix2 k (gcol q l)))
      (shapeCast_abd_nd_apply a0 shapeCasts_S6x1024x2176_S6144x2176 (batch r) (place r) k r (row_split r))
  · refine (broadcastTo_a1_ab_apply _ broadcasts_S6144x1_S6144x7168 r (gcol q l)).trans ?_
    exact shapeCast_abd_nd_apply a1 shapeCasts_S6x1024x1_S6144x1 (batch r) (place r) 0 r (row_split r)
  · refine (broadcastTo_1b_ab_apply _ broadcasts_S1x7168_S6144x7168 r (gcol q l)).trans ?_
    exact shapeCast_a_1a_apply a3 shapeCasts_S7168_S1x7168 0 (gcol q l)
  · refine (broadcastTo_1b_ab_apply _ broadcasts_S1x7168_S6144x7168 r (gcol q l)).trans ?_
    exact shapeCast_a_1a_apply (extf (s := S7168) (φ := .bf16) (F := Ideal) .f32 a4 bitsLt_bf16_f32) shapeCasts_S7168_S1x7168 0 (gcol q l)

/-! ### The exponents -/

theorem max_apply (r : Fin 6144) (q : Fin 56) :
    k0_pay5 (F := Ideal) a0 a2 a1 a3 a4 (ix2 r q) = amax ((Inputs.ofArgs a0 a1 a2 a3 a4).grp r q) := by
  unfold k0_pay5
  refine (groupMax_apply _ r q).trans ?_
  exact congrArg amax (funext fun l => act_apply a0 a1 a2 a3 a4 r q l)

/-- The exponent chain over any array of maxima. -/
theorem expo_chain (a : FVec Ideal S6144x56 .f32) (i : S6144x56.Idx) {v : EReal} (h : a i = v) :
    k0_pay1 (cmpf .oeq a (broadcast S6144x56 (Scalar.ofBits (F := Ideal) .f32 0x00000000#32)))
      (floor (divf (log (mulf a (broadcast S6144x56 (Scalar.ofBits (F := Ideal) .f32 0x3B124925#32))))
        (log (broadcast S6144x56 (Scalar.ofBits (F := Ideal) .f32 0x40000000#32)))))
      (broadcast S6144x56 (Scalar.ofBits (F := Ideal) .f32 0x3F800000#32)) i = expoRef v := by
  subst h
  rfl

theorem ld_expo (r : Fin 6144) (q : Fin 56) :
    k0_pay1 (k0_pay9 (F := Ideal) a0 a1 a2 a3 a4) (k0_pay10 (F := Ideal) a0 a1 a2 a3 a4) (k0_pay11 (F := Ideal) a0 a1 a2 a3 a4) (ix2 r q)
      = expoRef (amax ((Inputs.ofArgs a0 a1 a2 a3 a4).grp r q)) := by
  rw [ld9, ld10]
  exact expo_chain (k0_pay5 a0 a2 a1 a3 a4) (ix2 r q) (max_apply a0 a1 a2 a3 a4 r q)

/-! ### The two arrays -/

theorem codes_eq : RefRun.G5 (F := Ideal) a0 a1 a2 a3 a4 = (Inputs.ofArgs a0 a1 a2 a3 a4).codeArr := by
  funext i
  obtain ⟨p, s, c, rfl⟩ : ∃ (p : Fin 6) (s : Fin 1024) (c : Fin 7168), i = ix3 p s c := ⟨i 0, i 1, i 2, eq_ix3 i⟩
  have hc := c.isLt
  refine (codes_apply _ _ _ _ p s c ⟨c.val / 128, by omega⟩ ⟨c.val % 128, Nat.mod_lt _ (by decide)⟩
    (by show c.val = c.val / 128 * 128 + c.val % 128; omega)).trans ?_
  refine Eq.trans ?_ (codeRef_eq _ _)
  refine congrArg₂ (· * ·) (act_apply a0 a1 a2 a3 a4 _ _ _) ?_
  exact congrArg (fun e => Ideal.exp2 (Ideal.ofBits .f32 0x00000000#32 - e)) (ld_expo a0 a1 a2 a3 a4 _ _)

theorem scales_eq : RefRun.G6 (F := Ideal) a0 a1 a2 a3 a4 = (Inputs.ofArgs a0 a1 a2 a3 a4).scaleArr := by
  funext i
  obtain ⟨p, s, q, rfl⟩ : ∃ (p : Fin 6) (s : Fin 1024) (q : Fin 56), i = ix3 p s q := ⟨i 0, i 1, i 2, eq_ix3 i⟩
  refine (scales_apply _ _ _ p s q).trans ?_
  exact (congrArg Ideal.exp2 (ld_expo a0 a1 a2 a3 a4 _ _)).trans (scaleRef_eq _)

end GeluQuant.Ref

end
-- ==== Proof.lean ====
module

public import proofs.«01_k».proof.Proof.Gen.KernelIdeal.Run
public import proofs.«01_k».proof.Defs
public import proofs.«01_k».proof.Proof.KernelValue
public import proofs.«01_k».proof.Proof.RefValue
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

/-- Both programs end with the codes and scales of `GeluQuant.Inputs` on the argument arrays, which they leave as launched. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => (GeluQuant.Kernel.args m c).codeArr, fun c => (GeluQuant.Kernel.args m c).scaleArr, ?_, ?_⟩
  · refine (θ_run Cert.KernelIdeal.defs _ _).mono (fun r h c => ?_) (Cert.KernelIdeal.Value.run m g)
    obtain ⟨h0, h1, hk⟩ := h c
    exact ⟨h0.trans (GeluQuant.Kernel.result0 m c), h1.trans (GeluQuant.Kernel.result1 m c), hk⟩
  · refine (θ_run Cert.ReferenceIdeal.defs _ _).mono (fun r h c => ?_) (GeluQuant.RefRun.run m' g')
    obtain ⟨h0, h1, hk⟩ := h c
    obtain ⟨e0, e1, e2, e3, e4⟩ := hargs c
    rw [e0, e1, e2, e3, e4] at h0 h1
    exact ⟨h0.trans (GeluQuant.Ref.codes_eq _ _ _ _ _), h1.trans (GeluQuant.Ref.scales_eq _ _ _ _ _), hk⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
